-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x2x768 : Shape := ⟨3, ![8192, 2, 768]⟩
abbrev S16x768 : Shape := ⟨2, ![16, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S1x768 : Shape := ⟨2, ![1, 768]⟩
abbrev S1x3072 : Shape := ⟨2, ![1, 3072]⟩
abbrev S512x2x768 : Shape := ⟨3, ![512, 2, 768]⟩
abbrev S1024x768 : Shape := ⟨2, ![1024, 768]⟩
abbrev S512x768 : Shape := ⟨2, ![512, 768]⟩
abbrev S512 : Shape := ⟨1, ![512]⟩
abbrev S512x1 : Shape := ⟨2, ![512, 1]⟩
abbrev S512x3072 : Shape := ⟨2, ![512, 3072]⟩

abbrev nBuf : Space → Nat
  | .hbm => 17
  | .vmem => 10
  | .smem => 0
  | _ => 0

abbrev bufTy : (tb : Table) → Fin (tcTables nBuf tb) → BufTy
  | .hbm, ⟨0, _⟩ => ⟨S8192x2x768, .f32⟩
  | .hbm, ⟨1, _⟩ => ⟨S16x768, .f32⟩
  | .hbm, ⟨2, _⟩ => ⟨S768, .f32⟩
  | .hbm, ⟨3, _⟩ => ⟨S768, .f32⟩
  | .hbm, ⟨4, _⟩ => ⟨S3072x768, .f32⟩
  | .hbm, ⟨5, _⟩ => ⟨S3072, .f32⟩
  | .hbm, ⟨6, _⟩ => ⟨S768x3072, .f32⟩
  | .hbm, ⟨7, _⟩ => ⟨S768, .f32⟩
  | .hbm, ⟨8, _⟩ => ⟨S1x768, .f32⟩
  | .hbm, ⟨9, _⟩ => ⟨S1x768, .f32⟩
  | .hbm, ⟨10, _⟩ => ⟨S768x3072, .f32⟩
  | .hbm, ⟨11, _⟩ => ⟨S768x3072, .bf16⟩
  | .hbm, ⟨12, _⟩ => ⟨S1x3072, .f32⟩
  | .hbm, ⟨13, _⟩ => ⟨S3072x768, .f32⟩
  | .hbm, ⟨14, _⟩ => ⟨S3072x768, .bf16⟩
  | .hbm, ⟨15, _⟩ => ⟨S1x768, .f32⟩
  | .hbm, ⟨16, _⟩ => ⟨S8192x2x768, .f32⟩
  | .local _ .vmem, ⟨0, _⟩ => ⟨S512x2x768, .f32⟩
  | .local _ .vmem, ⟨1, _⟩ => ⟨S512x2x768, .f32⟩
  | .local _ .vmem, ⟨2, _⟩ => ⟨S1x768, .f32⟩
  | .local _ .vmem, ⟨3, _⟩ => ⟨S1x768, .f32⟩
  | .local _ .vmem, ⟨4, _⟩ => ⟨S768x3072, .bf16⟩
  | .local _ .vmem, ⟨5, _⟩ => ⟨S1x3072, .f32⟩
  | .local _ .vmem, ⟨6, _⟩ => ⟨S3072x768, .bf16⟩
  | .local _ .vmem, ⟨7, _⟩ => ⟨S1x768, .f32⟩
  | .local _ .vmem, ⟨8, _⟩ => ⟨S512x2x768, .f32⟩
  | .local _ .vmem, ⟨9, _⟩ => ⟨S512x2x768, .f32⟩
  | _, _ => ⟨S8192x2x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3072x768 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S8192x2x768 : Shape := ⟨3, ![8192, 2, 768]⟩
abbrev S16x768 : Shape := ⟨2, ![16, 768]⟩
abbrev S768 : Shape := ⟨1, ![768]⟩
abbrev S3072x768 : Shape := ⟨2, ![3072, 768]⟩
abbrev S3072 : Shape := ⟨1, ![3072]⟩
abbrev S768x3072 : Shape := ⟨2, ![768, 3072]⟩
abbrev S2x8192x768 : Shape := ⟨3, ![2, 8192, 768]⟩
abbrev S16384x768 : Shape := ⟨2, ![16384, 768]⟩
abbrev S768x16 : Shape := ⟨2, ![768, 16]⟩
abbrev S16384x16 : Shape := ⟨2, ![16384, 16]⟩
abbrev S_ : Shape := ⟨0, ![]⟩
abbrev S16384 : Shape := ⟨1, ![16384]⟩
abbrev S16384x1 : Shape := ⟨2, ![16384, 1]⟩
abbrev S1 : Shape := ⟨1, ![1]⟩
abbrev S1x1 : Shape := ⟨2, ![1, 1]⟩
abbrev S1x768 : Shape := ⟨2, ![1, 768]⟩
abbrev S16384x3072 : Shape := ⟨2, ![16384, 3072]⟩
abbrev S1x3072 : Shape := ⟨2, ![1, 3072]⟩

abbrev nBuf : Space → Nat
  | .hbm => 123
  | .vmem => 0
  | .smem => 0
  | _ => 0

abbrev bufTy : (tb : Table) → Fin (tcTables nBuf tb) → BufTy
  | .hbm, ⟨0, _⟩ => ⟨S8192x2x768, .f32⟩
  | .hbm, ⟨1, _⟩ => ⟨S16x768, .f32⟩
  | .hbm, ⟨2, _⟩ => ⟨S768, .f32⟩
  | .hbm, ⟨3, _⟩ => ⟨S768, .f32⟩
  | .hbm, ⟨4, _⟩ => ⟨S3072x768, .f32⟩
  | .hbm, ⟨5, _⟩ => ⟨S3072, .f32⟩
  | .hbm, ⟨6, _⟩ => ⟨S768x3072, .f32⟩
  | .hbm, ⟨7, _⟩ => ⟨S768, .f32⟩
  | .hbm, ⟨8, _⟩ => ⟨S2x8192x768, .f32⟩
  | .hbm, ⟨9, _⟩ => ⟨S16384x768, .f32⟩
  | .hbm, ⟨10, _⟩ => ⟨S768x16, .f32⟩
  | .hbm, ⟨11, _⟩ => ⟨S16384x16, .f32⟩
  | .hbm, ⟨12, _⟩ => ⟨S16384x16, .i32⟩
  | .hbm, ⟨13, _⟩ => ⟨S_, .f32⟩
  | .hbm, ⟨14, _⟩ => ⟨S_, .i32⟩
  | .hbm, ⟨15, _⟩ => ⟨S16384, .f32⟩
  | .hbm, ⟨16, _⟩ => ⟨S16384, .i32⟩
  | .hbm, ⟨17, _⟩ => ⟨S16384, .i32⟩
  | .hbm, ⟨18, _⟩ => ⟨S16384, .i32⟩
  | .hbm, ⟨19, _⟩ => ⟨S16384, .i32⟩
  | .hbm, ⟨20, _⟩ => ⟨S_, .i32⟩
  | .hbm, ⟨21, _⟩ => ⟨S16384, .i32⟩
  | .hbm, ⟨22, _⟩ => ⟨S16384, .i1⟩
  | .hbm, ⟨23, _⟩ => ⟨S_, .i32⟩
  | .hbm, ⟨24, _⟩ => ⟨S16384, .i32⟩
  | .hbm, ⟨25, _⟩ => ⟨S16384, .i32⟩
  | .hbm, ⟨26, _⟩ => ⟨S16384, .i32⟩
  | .hbm, ⟨27, _⟩ => ⟨S16384x1, .i32⟩
  | .hbm, ⟨28, _⟩ => ⟨S1, .i32⟩
  | .hbm, ⟨29, _⟩ => ⟨S_, .i32⟩
  | .hbm, ⟨30, _⟩ => ⟨S16384x1, .i32⟩
  | .hbm, ⟨31, _⟩ => ⟨S16384x1, .i1⟩
  | .hbm, ⟨32, _⟩ => ⟨S1x1, .i32⟩
  | .hbm, ⟨33, _⟩ => ⟨S16384x1, .i32⟩
  | .hbm, ⟨34, _⟩ => ⟨S16384x1, .i1⟩
  | .hbm, ⟨35, _⟩ => ⟨S16384x1, .i1⟩
  | .hbm, ⟨36, _⟩ => ⟨S_, .i1⟩
  | .hbm, ⟨37, _⟩ => ⟨S16384, .i1⟩
  | .hbm, ⟨38, _⟩ => ⟨S16384x768, .f32⟩
  | .hbm, ⟨39, _⟩ => ⟨S16384x768, .i1⟩
  | .hbm, ⟨40, _⟩ => ⟨S_, .f32⟩
  | .hbm, ⟨41, _⟩ => ⟨S16384x768, .f32⟩
  | .hbm, ⟨42, _⟩ => ⟨S16384x768, .f32⟩
  | .hbm, ⟨43, _⟩ => ⟨S_, .f32⟩
  | .hbm, ⟨44, _⟩ => ⟨S16384, .f32⟩
  | .hbm, ⟨45, _⟩ => ⟨S16384x1, .f32⟩
  | .hbm, ⟨46, _⟩ => ⟨S_, .f32⟩
  | .hbm, ⟨47, _⟩ => ⟨S16384x1, .f32⟩
  | .hbm, ⟨48, _⟩ => ⟨S16384x1, .f32⟩
  | .hbm, ⟨49, _⟩ => ⟨S16384x768, .f32⟩
  | .hbm, ⟨50, _⟩ => ⟨S16384x768, .f32⟩
  | .hbm, ⟨51, _⟩ => ⟨S16384x768, .f32⟩
  | .hbm, ⟨52, _⟩ => ⟨S_, .f32⟩
  | .hbm, ⟨53, _⟩ => ⟨S16384, .f32⟩
  | .hbm, ⟨54, _⟩ => ⟨S16384x1, .f32⟩
  | .hbm, ⟨55, _⟩ => ⟨S_, .f32⟩
  | .hbm, ⟨56, _⟩ => ⟨S16384x1, .f32⟩
  | .hbm, ⟨57, _⟩ => ⟨S16384x1, .f32⟩
  | .hbm, ⟨58, _⟩ => ⟨S16384x768, .f32⟩
  | .hbm, ⟨59, _⟩ => ⟨S16384x768, .f32⟩
  | .hbm, ⟨60, _⟩ => ⟨S_, .f32⟩
  | .hbm, ⟨61, _⟩ => ⟨S16384x1, .f32⟩
  | .hbm, ⟨62, _⟩ => ⟨S16384x1, .f32⟩
  | .hbm, ⟨63, _⟩ => ⟨S16384x1, .f32⟩
  | .hbm, ⟨64, _⟩ => ⟨S16384x768, .f32⟩
  | .hbm, ⟨65, _⟩ => ⟨S16384x768, .f32⟩
  | .hbm, ⟨66, _⟩ => ⟨S1x768, .f32⟩
  | .hbm, ⟨67, _⟩ => ⟨S16384x768, .f32⟩
  | .hbm, ⟨68, _⟩ => ⟨S16384x768, .f32⟩
  | .hbm, ⟨69, _⟩ => ⟨S1x768, .f32⟩
  | .hbm, ⟨70, _⟩ => ⟨S16384x768, .f32⟩
  | .hbm, ⟨71, _⟩ => ⟨S16384x768, .f32⟩
  | .hbm, ⟨72, _⟩ => ⟨S768x3072, .f32⟩
  | .hbm, ⟨73, _⟩ => ⟨S16384x3072, .f32⟩
  | .hbm, ⟨74, _⟩ => ⟨S1x3072, .f32⟩
  | .hbm, ⟨75, _⟩ => ⟨S16384x3072, .f32⟩
  | .hbm, ⟨76, _⟩ => ⟨S16384x3072, .f32⟩
  | .hbm, ⟨77, _⟩ => ⟨S_, .f32⟩
  | .hbm, ⟨78, _⟩ => ⟨S16384x3072, .f32⟩
  | .hbm, ⟨79, _⟩ => ⟨S16384x3072, .f32⟩
  | .hbm, ⟨80, _⟩ => ⟨S3072x768, .f32⟩
  | .hbm, ⟨81, _⟩ => ⟨S16384x768, .f32⟩
  | .hbm, ⟨82, _⟩ => ⟨S1x768, .f32⟩
  | .hbm, ⟨83, _⟩ => ⟨S16384x768, .f32⟩
  | .hbm, ⟨84, _⟩ => ⟨S16384x768, .f32⟩
  | .hbm, ⟨85, _⟩ => ⟨S16384x768, .f32⟩
  | .hbm, ⟨86, _⟩ => ⟨S_, .i32⟩
  | .hbm, ⟨87, _⟩ => ⟨S16384, .i32⟩
  | .hbm, ⟨88, _⟩ => ⟨S16384, .i32⟩
  | .hbm, ⟨89, _⟩ => ⟨S_, .i32⟩
  | .hbm, ⟨90, _⟩ => ⟨S16384, .i32⟩
  | .hbm, ⟨91, _⟩ => ⟨S16384, .i1⟩
  | .hbm, ⟨92, _⟩ => ⟨S_, .i32⟩
  | .hbm, ⟨93, _⟩ => ⟨S16384, .i32⟩
  | .hbm, ⟨94, _⟩ => ⟨S16384, .i32⟩
  | .hbm, ⟨95, _⟩ => ⟨S16384, .i32⟩
  | .hbm, ⟨96, _⟩ => ⟨S16384x1, .i32⟩
  | .hbm, ⟨97, _⟩ => ⟨S16384, .i32⟩
  | .hbm, ⟨98, _⟩ => ⟨S_, .i32⟩
  | .hbm, ⟨99, _⟩ => ⟨S16384, .i32⟩
  | .hbm, ⟨100, _⟩ => ⟨S16384, .i1⟩
  | .hbm, ⟨101, _⟩ => ⟨S_, .i32⟩
  | .hbm, ⟨102, _⟩ => ⟨S16384, .i32⟩
  | .hbm, ⟨103, _⟩ => ⟨S16384, .i32⟩
  | .hbm, ⟨104, _⟩ => ⟨S16384, .i32⟩
  | .hbm, ⟨105, _⟩ => ⟨S16384x1, .i32⟩
  | .hbm, ⟨106, _⟩ => ⟨S1, .i32⟩
  | .hbm, ⟨107, _⟩ => ⟨S_, .i32⟩
  | .hbm, ⟨108, _⟩ => ⟨S16384x1, .i32⟩
  | .hbm, ⟨109, _⟩ => ⟨S16384x1, .i1⟩
  | .hbm, ⟨110, _⟩ => ⟨S1x1, .i32⟩
  | .hbm, ⟨111, _⟩ => ⟨S16384x1, .i32⟩
  | .hbm, ⟨112, _⟩ => ⟨S16384x1, .i1⟩
  | .hbm, ⟨113, _⟩ => ⟨S16384x1, .i1⟩
  | .hbm, ⟨114, _⟩ => ⟨S_, .i1⟩
  | .hbm, ⟨115, _⟩ => ⟨S16384, .i1⟩
  | .hbm, ⟨116, _⟩ => ⟨S16384x768, .f32⟩
  | .hbm, ⟨117, _⟩ => ⟨S16384x768, .i1⟩
  | .hbm, ⟨118, _⟩ => ⟨S_, .f32⟩
  | .hbm, ⟨119, _⟩ => ⟨S16384x768, .f32⟩
  | .hbm, ⟨120, _⟩ => ⟨S16384x768, .f32⟩
  | .hbm, ⟨121, _⟩ => ⟨S2x8192x768, .f32⟩
  | .hbm, ⟨122, _⟩ => ⟨S8192x2x768, .f32⟩
  | _, _ => ⟨S8192x2x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v4 : Ref sig .tc := ⟨.hbm, 16, rfl⟩
abbrev main_call1_v0 : Ref sig .tc := ⟨.hbm, 17, rfl⟩
abbrev main_call1_v1_0 : Ref sig .tc := ⟨.hbm, 18, rfl⟩
abbrev main_v5 : Ref sig .tc := ⟨.hbm, 19, rfl⟩
abbrev main_call2_c : Ref sig .tc := ⟨.hbm, 20, rfl⟩
abbrev main_call2_v0 : Ref sig .tc := ⟨.hbm, 21, rfl⟩
abbrev main_call2_v1 : Ref sig .tc := ⟨.hbm, 22, rfl⟩
abbrev main_call2_c_0 : Ref sig .tc := ⟨.hbm, 23, rfl⟩
abbrev main_call2_v2 : Ref sig .tc := ⟨.hbm, 24, rfl⟩
abbrev main_call2_v3 : Ref sig .tc := ⟨.hbm, 25, rfl⟩
abbrev main_call2_v4 : Ref sig .tc := ⟨.hbm, 26, rfl⟩
abbrev main_call2_v5 : Ref sig .tc := ⟨.hbm, 27, rfl⟩
abbrev main_call2_c_1 : Ref sig .tc := ⟨.hbm, 28, rfl⟩
abbrev main_call2_c_2 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_3 : Ref sig .tc := ⟨.hbm, 36, rfl⟩
abbrev main_call2_v12 : Ref sig .tc := ⟨.hbm, 37, rfl⟩
abbrev main_call2_v13 : Ref sig .tc := ⟨.hbm, 38, rfl⟩
abbrev main_call2_v14 : Ref sig .tc := ⟨.hbm, 39, rfl⟩
abbrev main_call2_cst : Ref sig .tc := ⟨.hbm, 40, rfl⟩
abbrev main_call2_v15 : Ref sig .tc := ⟨.hbm, 41, rfl⟩
abbrev main_v6 : Ref sig .tc := ⟨.hbm, 42, rfl⟩
abbrev main_cst : Ref sig .tc := ⟨.hbm, 43, rfl⟩
abbrev main_v7 : Ref sig .tc := ⟨.hbm, 44, rfl⟩
abbrev main_v8 : Ref sig .tc := ⟨.hbm, 45, rfl⟩
abbrev main_cst_0 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_cst_1 : Ref sig .tc := ⟨.hbm, 52, rfl⟩
abbrev main_v14 : Ref sig .tc := ⟨.hbm, 53, rfl⟩
abbrev main_v15 : Ref sig .tc := ⟨.hbm, 54, rfl⟩
abbrev main_cst_2 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_cst_3 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_call3_cst : Ref sig .tc := ⟨.hbm, 77, rfl⟩
abbrev main_call3_v0 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_c : Ref sig .tc := ⟨.hbm, 86, rfl⟩
abbrev main_v43 : Ref sig .tc := ⟨.hbm, 87, rfl⟩
abbrev main_v44 : Ref sig .tc := ⟨.hbm, 88, rfl⟩
abbrev main_c_4 : Ref sig .tc := ⟨.hbm, 89, rfl⟩
abbrev main_v45 : Ref sig .tc := ⟨.hbm, 90, rfl⟩
abbrev main_v46 : Ref sig .tc := ⟨.hbm, 91, rfl⟩
abbrev main_c_5 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_call4_c : Ref sig .tc := ⟨.hbm, 98, rfl⟩
abbrev main_call4_v0 : Ref sig .tc := ⟨.hbm, 99, rfl⟩
abbrev main_call4_v1 : Ref sig .tc := ⟨.hbm, 100, rfl⟩
abbrev main_call4_c_0 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_call4_v5 : Ref sig .tc := ⟨.hbm, 105, rfl⟩
abbrev main_call4_c_1 : Ref sig .tc := ⟨.hbm, 106, rfl⟩
abbrev main_call4_c_2 : Ref sig .tc := ⟨.hbm, 107, rfl⟩
abbrev main_call4_v6 : Ref sig .tc := ⟨.hbm, 108, rfl⟩
abbrev main_call4_v7 : Ref sig .tc := ⟨.hbm, 109, rfl⟩
abbrev main_call4_v8 : Ref sig .tc := ⟨.hbm, 110, rfl⟩
abbrev main_call4_v9 : Ref sig .tc := ⟨.hbm, 111, rfl⟩
abbrev main_call4_v10 : Ref sig .tc := ⟨.hbm, 112, rfl⟩
abbrev main_call4_v11 : Ref sig .tc := ⟨.hbm, 113, rfl⟩
abbrev main_call4_c_3 : Ref sig .tc := ⟨.hbm, 114, rfl⟩
abbrev main_call4_v12 : Ref sig .tc := ⟨.hbm, 115, rfl⟩
abbrev main_call4_v13 : Ref sig .tc := ⟨.hbm, 116, rfl⟩
abbrev main_call4_v14 : Ref sig .tc := ⟨.hbm, 117, rfl⟩
abbrev main_call4_cst : Ref sig .tc := ⟨.hbm, 118, rfl⟩
abbrev main_call4_v15 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩

abbrev nD : Nat := 1
abbrev τ : Topo := Topo.v7x

variable {F : FTy → Type} [FloatOps F]
-- ==== Proof.KernelIdealBody.lean ====
/- What the fused kernel's body does at one grid point, and from it the frame of the whole run, for any scalars `F`.

   The body sees its input window (512 × 2 × 768) and its output window through a reshape to 1024 rows of 768, and works
   on two chunks of 512 rows. `outRows` is what the 1024 rows of the output end as: the second chunk's store over the
   first's. `outBlock` is the same rows as the window's own shape has them. From the body's triple the module gives the
   pipeline's proof data, the run of the program and the frame claim. -/
module

public import proofs.«01_k».proof.Proof.Gen.KernelIdeal.Frame
public import proofs.«01_k».proof.Proof.Gen.KernelIdeal.Skeleton
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's accesses -/

/-- The first chunk: rows 0 to 511 of the window's 1024. -/
abbrev rowsLo : Rect S1024x768 := Rect.unit (s := S1024x768) ![0, 0] S512x768.size inb_S1024x768_S512x768_0_0
/-- The second chunk: rows 512 to 1023. -/
abbrev rowsHi : Rect S1024x768 := Rect.unit (s := S1024x768) ![512, 0] S512x768.size inb_S1024x768_S512x768_512_0
abbrev whole1x768 : Rect S1x768 := Rect.unit (s := S1x768) ![0, 0] S1x768.size inb_S1x768_S1x768_0_0
abbrev whole768x3072 : Rect S768x3072 := Rect.unit (s := S768x3072) ![0, 0] S768x3072.size inb_S768x3072_S768x3072_0_0
abbrev whole1x3072 : Rect S1x3072 := Rect.unit (s := S1x3072) ![0, 0] S1x3072.size inb_S1x3072_S1x3072_0_0
abbrev whole3072x768 : Rect S3072x768 := Rect.unit (s := S3072x768) ![0, 0] S3072x768.size inb_S3072x768_S3072x768_0_0

/-- The window's block as its 1024 rows. -/
def asRows (x : Vec F S512x2x768 .f32) : Vec F S1024x768 .f32 :=
  fun j => x (Shape.reshapeEquiv reshapes_S512x2x768_S1024x768.1 j)

/-- Rows as the window's block. -/
def asBlock (x : Vec F S1024x768 .f32) : Vec F S512x2x768 .f32 :=
  fun j => x (Shape.reshapeEquiv reshapes_S512x2x768_S1024x768.1.symm j)

/-! ## What the body leaves in the output window -/

/-- What the first chunk's store writes. -/
def chunkLo (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) : Vec F S512x768 .f32 :=
  k0_pay8 (k0_pay5 (View.ld x5 whole3072x768)) (k0_pay6 (View.ld x6 whole1x768)) (View.ld (asRows x0) rowsLo)
    (k0_pay7 (View.ld x1 whole1x768) (View.ld x2 whole1x768) (View.ld x3 whole768x3072) (View.ld x4 whole1x3072) (View.ld (asRows x0) rowsLo))
    (Scalar.ofBits .f32 0x00000000#32)

/-- What the second chunk's store writes. -/
def chunkHi (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) : Vec F S512x768 .f32 :=
  k0_pay9 (k0_pay1 (View.ld x1 whole1x768)) (k0_pay2 (View.ld x2 whole1x768)) (k0_pay3 (View.ld x3 whole768x3072)) (k0_pay4 (View.ld x4 whole1x3072))
    (k0_pay5 (View.ld x5 whole3072x768)) (k0_pay6 (View.ld x6 whole1x768)) (View.ld (asRows x0) rowsHi)

/-- The 1024 rows the output window ends at: the two stores, last first. -/
def outRows (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) : Vec F S1024x768 .f32 :=
  View.canon [⟨rowsHi, chunkHi x0 x1 x2 x3 x4 x5 x6⟩, ⟨rowsLo, chunkLo x0 x1 x2 x3 x4 x5 x6⟩]

/-- The same rows in the window's own shape. -/
def outBlock (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) : Vec F S512x2x768 .f32 :=
  asBlock (outRows x0 x1 x2 x3 x4 x5 x6)

/-- The two chunks tile the 1024 rows, so they cover them. -/
theorem chunks_cover (p q : Vec F S512x768 .f32) (y : S1024x768.Idx) :
    ∃ pc ∈ ([⟨rowsHi, p⟩, ⟨rowsLo, q⟩] : List (View.Piece (Elt F) S1024x768 .f32)), y ∈ pc.1.set :=
  View.cover_of_tiled [⟨rowsHi, p⟩, ⟨rowsLo, q⟩] S512x768.size (by rfl) y

/-- A window held at anything is its rows held at something. -/
theorem rows_of_block (c : Dev nD) (w : Memref sig .tc .vmem S512x2x768 .f32) (hw : w.IsWhole) :
    iprop(∃ d, owns (c : Thread nD τ) w fullShare d) ⊢ (iprop(∃ d, owns (c : Thread nD τ)
      (w.reshape S1024x768 reshapes_S512x2x768_S1024x768.1 reshapes_S512x2x768_S1024x768.2 hw.contiguous) fullShare d) : sProp 𝕄) := by
  unfold owns
  rw [Memref.set_view_reshape w]
  iintro ⟨%d, %f, -, H⟩
  iexists _; iexists f; isplitr; · ipureintro; rfl
  iexact H

/-- The rows held at `X` are the window held at `X` in the window's shape. -/
theorem block_of_rows (c : Dev nD) (w : Memref sig .tc .vmem S512x2x768 .f32) (hw : w.IsWhole) (X : Vec F S1024x768 .f32) :
    owns (c : Thread nD τ) (w.reshape S1024x768 reshapes_S512x2x768_S1024x768.1 reshapes_S512x2x768_S1024x768.2 hw.contiguous)
      fullShare X ⊢ (owns (c : Thread nD τ) w fullShare (asBlock X) : sProp 𝕄) := by
  unfold owns
  rw [Memref.set_view_reshape w]
  iintro ⟨%f, %hf, H⟩
  iexists f; isplitr
  · ipureintro
    subst hf
    funext j
    change w.view.read (Elt F) f j = w.view.read (Elt F) f (Shape.reshapeEquiv _ (Shape.reshapeEquiv _ j))
    rw [Shape.reshapeEquiv_reshapeEquiv, Shape.reshapeEquiv_self]
  iexact H

/-! ## The body's triple -/

set_option maxHeartbeats 1000000 in
/-- The kernel body on whole staging memrefs, the output's seen as its 1024 rows `M`: from the inputs at read contents
    `xW` and any rows, it runs to the continuation holding the inputs as they were and the rows at `outRows`. -/
theorem sound_rows (c : Dev nD) (E : Set ℕ) (i : grid0.Coords) (arg1 : Memref sig .tc .vmem S512x2x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x3072 .bf16) (harg4 : arg4.IsWhole) (arg5 : Memref sig .tc .vmem S1x3072 .f32) (harg5 : arg5.IsWhole) (arg6 : Memref sig .tc .vmem S3072x768 .bf16) (harg6 : arg6.IsWhole) (arg7 : Memref sig .tc .vmem S1x768 .f32) (harg7 : arg7.IsWhole) (arg8 : Memref sig .tc .vmem S512x2x768 .f32) (harg8 : arg8.IsWhole)
    (M : Memref sig .tc .vmem S1024x768 .f32)
    (hM : arg8.reshape S1024x768 reshapes_S512x2x768_S1024x768.1 reshapes_S512x2x768_S1024x768.2 harg8.contiguous = M)
    (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) M fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) M fullShare (outRows x0 x1 x2 x3 x4 x5 x6)) -∗ K ⟨⟩))
      ⊢ wp frame (wpE (defs₀ (F := F)) Variants.none c none) E (cc0__fused_mlp_body i arg1 harg1 arg2 harg2 arg3 harg3 arg4 harg4 arg5 harg5 arg6 harg6 arg7 harg7 arg8 harg8) K := by
  simp only [cc0__fused_mlp_body_eq_skeleton]; unfold cc0__fused_mlp_body_skel
  simp only [k0_part1_eq_skeleton, k0_part2_eq_skeleton]
  subst hM
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (chunks_cover _ _)

/-- The same with the output window in its own shape: it ends at `outBlock`. -/
theorem sound_kernel (c : Dev nD) (E : Set ℕ) (i : grid0.Coords) (arg1 : Memref sig .tc .vmem S512x2x768 .f32) (harg1 : arg1.IsWhole) (arg2 : Memref sig .tc .vmem S1x768 .f32) (harg2 : arg2.IsWhole) (arg3 : Memref sig .tc .vmem S1x768 .f32) (harg3 : arg3.IsWhole) (arg4 : Memref sig .tc .vmem S768x3072 .bf16) (harg4 : arg4.IsWhole) (arg5 : Memref sig .tc .vmem S1x3072 .f32) (harg5 : arg5.IsWhole) (arg6 : Memref sig .tc .vmem S3072x768 .bf16) (harg6 : arg6.IsWhole) (arg7 : Memref sig .tc .vmem S1x768 .f32) (harg7 : arg7.IsWhole) (arg8 : Memref sig .tc .vmem S512x2x768 .f32) (harg8 : arg8.IsWhole)
    (x0 : Vec F S512x2x768 .f32) (x1 : Vec F S1x768 .f32) (x2 : Vec F S1x768 .f32) (x3 : Vec F S768x3072 .bf16) (x4 : Vec F S1x3072 .f32) (x5 : Vec F S3072x768 .bf16) (x6 : Vec F S1x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outBlock x0 x1 x2 x3 x4 x5 x6)) -∗ K ⟨⟩))
      ⊢ wp frame (wpE (defs₀ (F := F)) Variants.none c none) E (cc0__fused_mlp_body i arg1 harg1 arg2 harg2 arg3 harg3 arg4 harg4 arg5 harg5 arg6 harg6 arg7 harg7 arg8 harg8) K := by
  iintro ⟨H0, H1, H2, H3, H4, H5, H6, H7, Hk⟩
  iapply (sound_rows c E i arg1 harg1 arg2 harg2 arg3 harg3 arg4 harg4 arg5 harg5 arg6 harg6 arg7 harg7 arg8 harg8 _ rfl x0 x1 x2 x3 x4 x5 x6 K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (rows_of_block c arg8 harg8); iexact H7
  iintro ⟨H0, H1, H2, H3, H4, H5, H6, H7⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (block_of_rows c arg8 harg8); iexact H7

/-! ## The pipeline's proof data -/

/-- The pipeline's proof data on core `c`: each array starts as the host lines left it; after the body at point `t` an input
    window still has its block, and the output window has `outBlock` of the input blocks; the rest of the state is untouched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outBlock (iblk m c 0 t) (iblk m c 1 t) (iblk m c 2 t) (iblk m c 3 t) (iblk m c 4 t) (iblk m c 5 t) (iblk m c 6 t)
  Φ _ := Pipeline.ΦA spec0 c
  q _ := fullShare
  owed _ := 0

/-- The arrays start as the region finds them. -/
theorem A_eq (c : Dev nD) (w : Fin cfg0.W) : (dats m 0 c).A w = V m c (Pipeline.arrRef spec0 w) := by
  dsimp only [dats]

/-- What each window has after the body at a point. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = outBlock (iblk m c 0 t) (iblk m c 1 t) (iblk m c 2 t) (iblk m c 3 t) (iblk m c 4 t) (iblk m c 5 t) (iblk m c 6 t) := by dsimp only [dats]

/-- What each input window has before the body at a point: its block, whether or not it was fetched there. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body starts from at point `t`: the untouched rest and the eight windows. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- What the body ends with at point `t`. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body takes the one to the other at every point, by `sound_kernel`. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The table's body at point `t` is the kernel's body at that point's windows. -/
theorem defs₀_row (t : Fin cfg0.N) :
    defs₀ (F := F) .tc cfg0.body (cfg0.bodyArgs t (cfg0.slots t)) = bodyAt0 t := by
  unfold defs₀; rw [Defs.onTc_tc]

/-- What the pipeline asks of the body, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- The whole program runs from any memory with zero counters: it ends with the pipeline's arrays at what the proof data
    gives, everything else as the host lines left it, and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame: the program ends with its arguments unchanged and all counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Gen

end
-- ==== Proof.KernelFrame.lean ====
/-
  The kernel as printed and its idealization are the same program, since nothing was rewritten. So the frame proved for
  the one, at any scalars, is the frame of the other.
-/
module

public import proofs.«01_k».proof.Proof.KernelIdealBody
public import proofs.«01_k».proof.Proof.Gen.Kernel

@[expose] public section

noncomputable section

namespace Cert.Proof

open Idealize.ShloMosaic Idealize.SL.Sem

variable {F : FTy → Type} [FloatOps F]

/-- The two tables of kernel bodies are equal: one label, and the same body at it. -/
theorem bodies_eq : Kernel.defs₀ (F := F) = KernelIdeal.defs₀ := by
  unfold Kernel.defs₀ KernelIdeal.defs₀
  refine congrArg Defs.onTc (funext fun l => funext fun a => ?_)
  obtain ⟨n, hn⟩ := l
  obtain rfl : n = 0 := by have : n < 1 := hn; omega
  obtain ⟨t, s⟩ := a
  rfl

/-- So the tables with the pipeline's own labels are equal too. -/
theorem defs_eq : Kernel.defs (F := F) = KernelIdeal.defs :=
  congrArg (Pipeline.defs KernelIdeal.pcfgs) bodies_eq

/-- The kernel's frame, from its idealization's. -/
theorem kernel_frame (m : (ℓ : Loc Kernel.nD Kernel.τ Kernel.sig) → Buf (Elt F) ℓ) (g : Dev Kernel.nD → PrngReg) :
    θ_run (Kernel.defs (F := F)) (onTc (τ := Kernel.τ) (Kernel.main (F := F))) ⟨m, fun _ => 0, g⟩ (fun r => (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4)
      ∧ r.2.mem ((c.tc : Thread Kernel.nD Kernel.τ).loc Kernel.main_arg5) = m ((c.tc : Thread Kernel.nD Kernel.τ).loc Kernel.main_arg5)
      ∧ r.2.mem ((c.tc : Thread Kernel.nD Kernel.τ).loc Kernel.main_arg6) = m ((c.tc : Thread Kernel.nD Kernel.τ).loc Kernel.main_arg6)
      ∧ r.2.mem ((c.tc : Thread Kernel.nD Kernel.τ).loc Kernel.main_arg7) = m ((c.tc : Thread Kernel.nD Kernel.τ).loc Kernel.main_arg7))
      ∧ r.2.sem = fun _ => 0) := by
  rw [defs_eq]
  exact KernelIdeal.Gen.frame m g

end Cert.Proof

end
-- ==== Proof.RowFunction.lean ====
/- What is computed of one row of 768 numbers, over the extended reals: its layer norm (mean, variance, division by the
   square root of the variance with a small constant added, scale and shift), a hidden layer of 3072 rectified numbers, the
   output layer, and the row added back. And the one law the equation needs: for a positive `v`, to multiply by `1 / √v` is to divide by `√v`,
   at the infinities too. -/
module

public import Idealize.ShloMosaic.PureOps.Ideal
public import Idealize.ShloMosaic.PureOps.Ideal.Laws

@[expose] public section

noncomputable section

namespace Cert.Proof

open Idealize.ShloMosaic

/-- The number of entries of a row, as the programs write it. -/
abbrev width : EReal := Ideal.ofBits .f32 0x44400000#32

/-- The small constant added to the variance, as the programs write it. -/
abbrev eps : EReal := Ideal.ofBits .f32 0x3727C5AC#32

/-- The mean of a row. -/
def mean (r : Fin 768 → EReal) : EReal := Ideal.div (∑ k : Fin 768, r k) width

/-- A row less its mean. -/
def centre (r : Fin 768 → EReal) (d : Fin 768) : EReal := r d - mean r

/-- The variance of a row with the small constant added. -/
def spread (r : Fin 768 → EReal) : EReal := mean (fun k => centre r k * centre r k) + eps

/-- The layer norm of a row. -/
def normed (r g b : Fin 768 → EReal) (d : Fin 768) : EReal := Ideal.div (centre r d) (Ideal.sqrt (spread r)) * g d + b d

/-- The hidden layer over a normalised row. -/
def hiddenOf (h : Fin 768 → EReal) (w1 : Fin 3072 → Fin 768 → EReal) (b1 : Fin 3072 → EReal) (k : Fin 3072) : EReal :=
  max ((∑ d : Fin 768, h d * w1 k d) + b1 k) 0

/-- The output layer over a hidden row. -/
def outputOf (u : Fin 3072 → EReal) (w2 : Fin 768 → Fin 3072 → EReal) (b2 : Fin 768 → EReal) (d : Fin 768) : EReal :=
  (∑ k : Fin 3072, u k * w2 d k) + b2 d

/-- The row through the layer norm and the network, added to itself. -/
def rowOut (r g b : Fin 768 → EReal) (w1 : Fin 3072 → Fin 768 → EReal) (b1 : Fin 3072 → EReal)
    (w2 : Fin 768 → Fin 3072 → EReal) (b2 : Fin 768 → EReal) (d : Fin 768) : EReal :=
  r d + outputOf (hiddenOf (normed r g b) w1 b1) w2 b2 d

/-! ## The reciprocal square root -/

/-- For a positive `v`, multiplying by the reciprocal square root is dividing by the square root. -/
theorem mul_rsqrt (x : EReal) {v : EReal} (hv : 0 < v) : x * Ideal.rsqrt v = Ideal.div x (Ideal.sqrt v) := by
  induction v using EReal.rec with
  | bot => exact absurd hv (by simp)
  | top =>
    rw [Ideal.rsqrt_top, Ideal.sqrt_top, Ideal.div, if_neg EReal.top_ne_zero, EReal.inv_top]
  | coe r =>
    have hr : 0 < r := EReal.coe_pos.1 hv
    have hs : ((Real.sqrt r : ℝ) : EReal) ≠ 0 := by
      rw [Ne, EReal.coe_eq_zero]; exact (Real.sqrt_pos.2 hr).ne'
    rw [Ideal.rsqrt_coe, Ideal.sqrt_coe, if_neg hr.not_gt, if_neg hr.ne', if_neg hr.not_gt, Ideal.div, if_neg hs, EReal.coe_inv]

/-- The width is positive (it is 768). -/
theorem width_pos : 0 < width := by
  have : width = ((768 : ℝ) : EReal) := by simp [width, Ideal.ofBits, Ideal.ieee]; rw [← EReal.coe_mul]; norm_num
  rw [this]; exact EReal.coe_pos.2 (by norm_num)

/-- The small constant is positive. -/
theorem eps_pos : 0 < eps := by
  have : eps = ((10995116 / 2 ^ 40 : ℝ) : EReal) := by simp [eps, Ideal.ofBits, Ideal.ieee]; rw [← EReal.coe_mul]; norm_num
  rw [this]; exact EReal.coe_pos.2 (by norm_num)

/-- A square is not negative, at the infinities too. -/
theorem square_nonneg (x : EReal) : 0 ≤ x * x := by
  induction x using EReal.rec with
  | bot => rw [EReal.bot_mul_bot]; exact le_top
  | top => rw [EReal.top_mul_top]; exact le_top
  | coe r => rw [← EReal.coe_mul]; exact EReal.coe_nonneg.2 (mul_self_nonneg r)

/-- The mean of numbers that are not negative is not negative. -/
theorem mean_nonneg {r : Fin 768 → EReal} (h : ∀ k, 0 ≤ r k) : 0 ≤ mean r := by
  unfold mean
  rw [Ideal.div, if_neg width_pos.ne']
  exact mul_nonneg (Finset.sum_nonneg fun k _ => h k) (EReal.inv_nonneg_of_nonneg width_pos.le)

/-- The variance with the small constant added is positive, whatever the row holds. -/
theorem spread_pos (r : Fin 768 → EReal) : 0 < spread r :=
  lt_of_lt_of_le eps_pos (le_add_of_nonneg_left (mean_nonneg fun k => square_nonneg _))

/-- The layer norm of a row, with the reciprocal square root in place of the division. -/
theorem normed_eq (r g b : Fin 768 → EReal) (d : Fin 768) : normed r g b d = centre r d * Ideal.rsqrt (spread r) * g d + b d := by
  rw [normed, mul_rsqrt _ (spread_pos r)]

end Cert.Proof

end
-- ==== Proof.KernelRows.lean ====
/- What the kernel's body computes of a chunk of 512 rows, over the extended reals: the row function `rowOut` of each row.
   The roundings to the narrow format are the identity here, and the second chunk's value is the first's function of the
   second chunk. -/
module

public import proofs.«01_k».proof.Proof.KernelIdealBody
public import proofs.«01_k».proof.Proof.RowFunction
public import Idealize.ShloMosaic.Lib.Pointwise
public import Idealize.ShloMosaic.Lib.Pipeline.ValueKit.Tiles
public import Idealize.ShloMosaic.Lib.Pipeline.ValueKit.Basic

@[expose] public section

set_option maxRecDepth 16384

noncomputable section

namespace Cert.Proof.Ker

open Cert.KernelIdeal Cert.KernelIdeal.Gen
open Idealize.ShloMosaic
open Cert.Proof (mean centre spread normed normed_eq hiddenOf outputOf rowOut)

/-- Row `p` of a chunk. -/
abbrev rowAt (X : FVec Ideal S512x768 .f32) (p : Fin 512) (d : Fin 768) : EReal := X (ix2 p d)

/-- The hidden layer before it is rectified. -/
theorem hidden_apply (g b : Vec Ideal S1x768 .f32) (w1 : Vec Ideal S768x3072 .bf16) (b1 : Vec Ideal S1x3072 .f32)
    (X : Vec Ideal S512x768 .f32) (p : Fin 512) (k : Fin 3072) :
    k0_pay7 g b w1 b1 X (ix2 p k)
      = (∑ d : Fin 768, normed (rowAt X p) (fun k => g (ix2 0 k)) (fun k => b (ix2 0 k)) d * w1 (ix2 d k)) + b1 (ix2 0 k) := by
  simp only [normed_eq, centre, spread, mean]
  pointwise [k0_pay7, k0_pay1, k0_pay2, k0_pay3, k0_pay4]

/-- The output layer and the residual, over the hidden layer's numbers before they are rectified. -/
theorem output_apply (w2 : Vec Ideal S3072x768 .bf16) (b2 : Vec Ideal S1x768 .f32) (X : Vec Ideal S512x768 .f32)
    (H : FVec Ideal S512x3072 .f32) (p : Fin 512) (d : Fin 768) :
    k0_pay8 w2 b2 X H (Scalar.ofBits .f32 0x00000000#32) (ix2 p d)
      = X (ix2 p d) + ((∑ k : Fin 3072, max (H (ix2 p k)) 0 * w2 (ix2 k d)) + b2 (ix2 0 d)) := by
  pointwise [k0_pay8]

/-- What the body computes of a chunk `X`, whichever chunk it is. -/
def chunk (g b : Vec Ideal S1x768 .f32) (w1 : Vec Ideal S768x3072 .bf16) (b1 : Vec Ideal S1x3072 .f32)
    (w2 : Vec Ideal S3072x768 .bf16) (b2 : Vec Ideal S1x768 .f32) (X : Vec Ideal S512x768 .f32) : Vec Ideal S512x768 .f32 :=
  k0_pay8 (k0_pay5 w2) (k0_pay6 b2) X (k0_pay7 g b w1 b1 X) (Scalar.ofBits .f32 0x00000000#32)

/-- A chunk's value, row by row. -/
theorem chunk_apply (g b : Vec Ideal S1x768 .f32) (w1 : Vec Ideal S768x3072 .bf16) (b1 : Vec Ideal S1x3072 .f32)
    (w2 : Vec Ideal S3072x768 .bf16) (b2 : Vec Ideal S1x768 .f32) (X : Vec Ideal S512x768 .f32) (p : Fin 512) (d : Fin 768) :
    chunk g b w1 b1 w2 b2 X (ix2 p d) = rowOut (rowAt X p) (fun k => g (ix2 0 k)) (fun k => b (ix2 0 k))
      (fun k d => w1 (ix2 d k)) (fun k => b1 (ix2 0 k)) (fun d k => w2 (ix2 k d)) (fun k => b2 (ix2 0 k)) d := by
  have e2 : k0_pay5 (F := Ideal) w2 = w2 := funext fun j => by idx_vars j; pointwise [k0_pay5]
  have e6 : k0_pay6 (F := Ideal) b2 = b2 := funext fun j => by idx_vars j; pointwise [k0_pay6]
  unfold chunk rowOut outputOf hiddenOf
  rw [e2, e6, output_apply]
  simp only [hidden_apply]

variable (x0 : Vec Ideal S512x2x768 .f32) (g b : Vec Ideal S1x768 .f32) (w1 : Vec Ideal S768x3072 .bf16)
  (b1 : Vec Ideal S1x3072 .f32) (w2 : Vec Ideal S3072x768 .bf16) (b2 : Vec Ideal S1x768 .f32)

/-- Loading a whole window gives the window, for each of the four whole shapes. -/
theorem ld_768x3072 (X : Vec Ideal S768x3072 .bf16) : View.ld X whole768x3072 = X := View.ld_unit_lit _ X (by decide)

theorem ld_1x3072 (X : Vec Ideal S1x3072 .f32) : View.ld X whole1x3072 = X := View.ld_unit_lit _ X (by decide)

theorem ld_3072x768 (X : Vec Ideal S3072x768 .bf16) : View.ld X whole3072x768 = X := View.ld_unit_lit _ X (by decide)

theorem ld_1x768 (X : Vec Ideal S1x768 .f32) : View.ld X whole1x768 = X := View.ld_unit_lit _ X (by decide)

/-- The first chunk is the function of rows 0 to 511. -/
theorem chunkLo_eq : chunkLo x0 g b w1 b1 w2 b2 = chunk g b w1 b1 w2 b2 (View.ld (asRows x0) rowsLo) := by
  unfold chunkLo
  simp only [ld_768x3072, ld_1x3072, ld_3072x768, ld_1x768]
  rfl

/-- The second chunk is the same function of rows 512 to 1023. -/
theorem chunkHi_eq : chunkHi x0 g b w1 b1 w2 b2 = chunk g b w1 b1 w2 b2 (View.ld (asRows x0) rowsHi) := by
  unfold chunkHi
  simp only [ld_768x3072, ld_1x3072, ld_3072x768, ld_1x768]
  rfl

/-- Row `2 s + q` of the window's rows is batch entry `q` of its sequence place `s`. -/
theorem reshape_row (h : S1024x768.numel = S512x2x768.numel) (r : Fin 1024) (s : Fin 512) (q : Fin 2) (d : Fin 768)
    (hr : r.val = 2 * s.val + q.val) : Shape.reshapeEquiv h (ix2 r d) = ix3 s q d :=
  Shape.reshapeEquiv_eq_of_rowMajor h (by
    rw [Shape.rowMajor_val_three, Shape.rowMajor_val_two]
    show (s.val * 2 + q.val) * 768 + d.val = r.val * 768 + d.val
    omega)

/-- The window's rows, read at an element. -/
theorem asRows_apply (X : Vec Ideal S512x2x768 .f32) (r : Fin 1024) (s : Fin 512) (q : Fin 2) (d : Fin 768)
    (hr : r.val = 2 * s.val + q.val) : asRows X (ix2 r d) = X (ix3 s q d) :=
  congrArg X (reshape_row _ r s q d hr)

/-- Rows in the window's shape, read at an element. -/
theorem asBlock_apply (X : Vec Ideal S1024x768 .f32) (r : Fin 1024) (s : Fin 512) (q : Fin 2) (d : Fin 768)
    (hr : r.val = 2 * s.val + q.val) : asBlock X (ix3 s q d) = X (ix2 r d) := by
  have e := reshape_row reshapes_S512x2x768_S1024x768.1 r s q d hr
  unfold asBlock
  rw [← e, Shape.reshapeEquiv_reshapeEquiv, Shape.reshapeEquiv_self]

/-- What the body leaves in the output window, read at an element: the row function of the input window's row there. -/
theorem outBlock_apply (s : Fin 512) (q : Fin 2) (d : Fin 768) :
    outBlock x0 g b w1 b1 w2 b2 (ix3 s q d) = rowOut (fun k => x0 (ix3 s q k)) (fun k => g (ix2 0 k)) (fun k => b (ix2 0 k))
      (fun k d => w1 (ix2 d k)) (fun k => b1 (ix2 0 k)) (fun d k => w2 (ix2 k d)) (fun k => b2 (ix2 0 k)) d := by
  have hs := s.isLt
  have hq := q.isLt
  unfold outBlock
  rw [asBlock_apply _ (⟨2 * s.val + q.val, by omega⟩ : Fin 1024) s q d rfl]
  unfold outRows
  refine View.canon_eq_of_allAt _ _ _ (chunks_cover _ _ _) ?_
  have row : ∀ (off : ℕ) (h) (x : S512x768.Idx),
      (Rect.unit (s := S1024x768) ![off, 0] S512x768.size h).emb x = ix2 (⟨2 * s.val + q.val, by omega⟩ : Fin 1024) d →
      chunk g b w1 b1 w2 b2 (View.ld (asRows x0) (Rect.unit (s := S1024x768) ![off, 0] S512x768.size h)) x
        = rowOut (fun k => x0 (ix3 s q k)) (fun k => g (ix2 0 k)) (fun k => b (ix2 0 k))
            (fun k d => w1 (ix2 d k)) (fun k => b1 (ix2 0 k)) (fun d k => w2 (ix2 k d)) (fun k => b2 (ix2 0 k)) d := by
    intro off h x hx
    obtain ⟨p, e, rfl⟩ : ∃ p e, x = ix2 p e := ⟨x 0, x 1, by funext a; match a with | ⟨0, _⟩ => rfl | ⟨1, _⟩ => rfl⟩
    have h0 : off + 1 * p.val = 2 * s.val + q.val := congrArg Fin.val (congrFun hx 0)
    have h1 : 0 + 1 * e.val = d.val := congrArg Fin.val (congrFun hx 1)
    obtain rfl : e = d := Fin.ext (by omega)
    rw [chunk_apply]
    refine congrArg (fun r => rowOut r _ _ _ _ _ _ e) (funext fun k => ?_)
    refine (View.ld_unit_apply_of (asRows x0) _ _ h (ix2 p k) (ix2 (⟨2 * s.val + q.val, by omega⟩ : Fin 1024) k) fun a => ?_).trans
      (asRows_apply x0 _ s q k rfl)
    match a with
    | ⟨0, _⟩ => show 2 * s.val + q.val = off + p.val; omega
    | ⟨1, _⟩ => show k.val = 0 + k.val; omega
  intro pc hpc x hx
  rcases List.mem_cons.1 hpc with rfl | hpc
  · exact (congrFun (chunkHi_eq x0 g b w1 b1 w2 b2) x).trans (row 512 _ x hx)
  · obtain rfl := List.mem_singleton.1 hpc
    exact (congrFun (chunkLo_eq x0 g b w1 b1 w2 b2) x).trans (row 0 _ x hx)

end Cert.Proof.Ker

end
-- ==== Proof.KernelValue.lean ====
/-
  What the idealized kernel's result array holds after the run, as the row function of the argument arrays: the windows'
  blocks as elements of the arguments, then one output block, then the sixteen of them.
-/
module

public import proofs.«01_k».proof.Proof.KernelRows
public import Idealize.ShloMosaic.Lib.Pipeline.ValueKit
public import Idealize.ShloMosaic.Lib.Claim

@[expose] public section

noncomputable section

namespace Cert.Proof.Ker

open Cert.KernelIdeal Cert.KernelIdeal.Gen Idealize.ShloMosaic Idealize.ShloMosaic.TcCoe

variable (m : (ℓ : Loc nD τ sig) → Buf (Elt Ideal) ℓ) (c : Dev nD) (t : Fin cfg0.N)

/-- The block indices: the input's and the output's blocks are sixteen along the sequence, every other window is one block. -/
theorem indices : ∀ t : Fin cfg0.N,
    (win0_0.index t 0 = t.val ∧ win0_0.index t 1 = 0 ∧ win0_0.index t 2 = 0)
    ∧ (win0_7.index t 0 = t.val ∧ win0_7.index t 1 = 0 ∧ win0_7.index t 2 = 0)
    ∧ win0_1.index t 1 = 0 ∧ win0_2.index t 1 = 0
    ∧ (win0_3.index t 0 = 0 ∧ win0_3.index t 1 = 0) ∧ win0_4.index t 1 = 0
    ∧ (win0_5.index t 0 = 0 ∧ win0_5.index t 1 = 0) ∧ win0_6.index t 1 = 0 := by
  decide +kernel

/-- The scale's window: the argument, as a row. -/
theorem block1_apply (k : Fin 768) : (iblk m c 1 t : Vec Ideal S1x768 .f32) (ix2 0 k) = m ((c : Thread nD τ).loc main_arg2) (ix1 k) := by
  blk_ext! [iblk, V]
  all_goals have := indices t; omega

/-- The shift's window. -/
theorem block2_apply (k : Fin 768) : (iblk m c 2 t : Vec Ideal S1x768 .f32) (ix2 0 k) = m ((c : Thread nD τ).loc main_arg3) (ix1 k) := by
  blk_ext! [iblk, V]
  all_goals have := indices t; omega

/-- The first weight's window: the argument transposed. -/
theorem block3_apply (d : Fin 768) (k : Fin 3072) :
    (iblk m c 3 t : Vec Ideal S768x3072 .bf16) (ix2 d k) = m ((c : Thread nD τ).loc main_arg4) (ix2 k d) := by
  blk_ext! [iblk, V]
  all_goals have := indices t; omega

/-- The hidden bias's window. -/
theorem block4_apply (k : Fin 3072) : (iblk m c 4 t : Vec Ideal S1x3072 .f32) (ix2 0 k) = m ((c : Thread nD τ).loc main_arg5) (ix1 k) := by
  blk_ext! [iblk, V]
  all_goals have := indices t; omega

/-- The second weight's window: the argument transposed. -/
theorem block5_apply (k : Fin 3072) (d : Fin 768) :
    (iblk m c 5 t : Vec Ideal S3072x768 .bf16) (ix2 k d) = m ((c : Thread nD τ).loc main_arg6) (ix2 d k) := by
  blk_ext! [iblk, V]
  all_goals have := indices t; omega

/-- The output bias's window. -/
theorem block6_apply (k : Fin 768) : (iblk m c 6 t : Vec Ideal S1x768 .f32) (ix2 0 k) = m ((c : Thread nD τ).loc main_arg7) (ix1 k) := by
  blk_ext! [iblk, V]
  all_goals have := indices t; omega

/-- The input's window at grid point `t`: 512 places of the sequence, from `512 t` on. -/
theorem block0_apply (s : Fin 512) (q : Fin 2) (k : Fin 768) (S : Fin 8192) (h : S.val = 512 * t.val + s.val) :
    (iblk m c 0 t : Vec Ideal S512x2x768 .f32) (ix3 s q k) = m ((c : Thread nD τ).loc main_arg0) (ix3 S q k) := by
  blk_ext! [iblk, V]
  all_goals have := indices t; omega

/-- The row function of the arguments, at every place of the sequence and every batch entry. -/
def value : Vec Ideal S8192x2x768 .f32 := fun i =>
  rowOut (fun k => m ((c : Thread nD τ).loc main_arg0) (ix3 (i 0) (i 1) k)) (fun k => m ((c : Thread nD τ).loc main_arg2) (ix1 k))
    (fun k => m ((c : Thread nD τ).loc main_arg3) (ix1 k)) (fun k d => m ((c : Thread nD τ).loc main_arg4) (ix2 k d))
    (fun k => m ((c : Thread nD τ).loc main_arg5) (ix1 k)) (fun d k => m ((c : Thread nD τ).loc main_arg6) (ix2 d k))
    (fun k => m ((c : Thread nD τ).loc main_arg7) (ix1 k)) (i 2)

/-- The output window's array after the run: every block written back is the row function of its own rows, and the sixteen
    blocks are the array. -/
theorem array_eq : (dats m 0 c).arrAt 7 cfg0.N = value m c := by
  refine (dats m 0 c).arrAt_eq_of_covers 7 _ (by decide +kernel) fun t hf y => ?_
  blk_simp
  rw [after0_7]
  frame_out
  obtain ⟨s, q, d, rfl⟩ : ∃ (s : Fin 512) (q : Fin 2) (d : Fin 768), y = ix3 s q d := ⟨y 0, y 1, y 2, by
    funext a; match a with | ⟨0, _⟩ => rfl | ⟨1, _⟩ => rfl | ⟨2, _⟩ => rfl⟩
  have hs := s.isLt
  have ht : t.val < 16 := lt_of_lt_of_eq t.isLt N_0
  obtain ⟨-, ⟨e0, e1, e2⟩, -⟩ := indices t
  have hi : ((View.whole main_v8).slice (win0_7.rect t)).emb (ix3 s q d) = ix3 (⟨512 * t.val + s.val, by omega⟩ : Fin 8192) q d := by
    funext a; apply Fin.ext
    match a with
    | ⟨0, _⟩ => show win0_7.index t 0 * 512 + 1 * s.val = 512 * t.val + s.val; omega
    | ⟨1, _⟩ => show win0_7.index t 1 * 2 + 1 * q.val = q.val; omega
    | ⟨2, _⟩ => show win0_7.index t 2 * 768 + 1 * d.val = d.val; omega
  refine Eq.trans ?_ (congrArg (value m c) hi).symm
  rw [outBlock_apply]
  simp only [block1_apply, block2_apply, block3_apply, block4_apply, block5_apply, block6_apply,
    fun k => block0_apply m c t s q k ⟨512 * t.val + s.val, by omega⟩ rfl]
  rfl

/-- The idealized kernel's run: the result array ends at the row function of the arguments, which are unchanged. -/
theorem run_value (ρ : Dev nD → PrngReg) : θ_run defs (onTc (τ := τ) (main (F := Ideal))) ⟨m, fun _ => 0, ρ⟩ fun r => ∀ c : Dev nD,
    r.2.mem ((c : Thread nD τ).loc main_v8) = value m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun _ h c => ⟨((h.1 c).1 7).trans (array_eq m c), h.2 c⟩)
    (θ_run_and (run_main m ρ) (unchanged m ρ))

end Cert.Proof.Ker

end
-- ==== Proof.ReferenceRun.lean ====
/- The straight line of array operations that the reference program is, and its run: from any memory with zero counters
   the program terminates with every buffer at the fold of the operations over the launch contents.

   The line is cut where the reference's own text has its steps: the routing order (`opsOrder`), the gather of the rows by
   it (`opsTake`), the layer norm (`opsNorm`), the two-layer network with its residual (`opsMlp`), the inverse order
   (`opsInv`), the gather back (`opsTake` again) and the way back to the argument's own shape (`opsBack`). -/
module

public import Idealize.ShloMosaic.Lib.StableHlo.Run
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The rows, the cluster scores, the cluster of each row, and the order that sorts the rows by cluster. -/
abbrev opsOrder : List (HloOp τ sig (Elt F)) :=
  [ unary main_arg0 main_v0 ((transpose S2x8192x768 [1, 0, 2] · transposes_S8192x2x768_S2x8192x768_1_0_2)),
    reshape main_v0 main_v1 (rfl : (.f32 : EltTy) = .f32) shapeCasts_S2x8192x768_S16384x768,
    unary main_arg1 main_v2 ((transpose S768x16 [1, 0] · transposes_S16x768_S768x16_1_0)),
    binary main_v1 main_v2 main_v3 ((fun l r => Host.dotGeneral dot_S16384x768_S768x16_S16384x16_1_0_0_1_n_n none l r)),
    TRef.nullary main_call0.v0 (iotaInDim S16384x16 32 1),
    TRef.nullary main_call0.cst (constant S_ .f32 0xFF800000#32),
    TRef.nullary main_call0.c (constantI S_ 32 0#32),
    TRef.quaternary (.of main_v3) main_call0.v0 main_call0.cst main_call0.c main_call0.v1_0 (fun x y u v j => (Host.argReduce reducer_argmax_f32_i32 x y u v reducesTo_S16384x16_S16384_d1 h_S_ j).1),
    TRef.quaternary (.of main_v3) main_call0.v0 main_call0.cst main_call0.c main_call0.v1_1 (fun x y u v j => (Host.argReduce reducer_argmax_f32_i32 x y u v reducesTo_S16384x16_S16384_d1 h_S_ j).2),
    TRef.nullary main_call1.v0 (iotaInDim S16384 32 0),
    TRef.binary (.of main_v4) main_call1.v0 main_call1.v1_0 (fun x y => (Host.sort2 S16384 0 comparator_i32_i32_d0 x y).1),
    TRef.binary (.of main_v4) main_call1.v0 main_call1.v1_1 (fun x y => (Host.sort2 S16384 0 comparator_i32_i32_d0 x y).2) ]

/-- One call of the gather helper over the rows `arg0` and the indices `arg1`. -/
abbrev opsTake (arg0 : TRef sig ⟨S16384x768, .f32⟩) (arg1 : TRef sig ⟨S16384, .i32⟩) (φ : fn_take.Bufs) :
    List (HloOp τ sig (Elt F)) :=
  [ TRef.nullary φ.c (constantI S_ 32 0#32),
    TRef.unary φ.c φ.v0 (broadcastInDim S16384 ![] bcast_S_S16384),
    TRef.binary arg1 φ.v0 φ.v1 (cmpi .slt),
    TRef.nullary φ.c_0 (constantI S_ 32 16384#32),
    TRef.unary φ.c_0 φ.v2 (broadcastInDim S16384 ![] bcast_S_S16384),
    TRef.binary arg1 φ.v2 φ.v3 addi,
    TRef.ternary φ.v1 φ.v3 arg1 φ.call0.v0 select,
    TRef.unary φ.call0.v0 φ.v5 (broadcastInDim S16384x1 ![0] bcast_S16384_S16384x1_0),
    TRef.nullary φ.c_1 (constantI S1 32 16383#32),
    TRef.nullary φ.c_2 (constantI S_ 32 0#32),
    TRef.unary φ.c_2 φ.v6 (broadcastInDim S16384x1 ![] bcast_S_S16384x1),
    TRef.binary φ.v5 φ.v6 φ.v7 (cmpi .sge),
    TRef.unary φ.c_1 φ.v8 (broadcastInDim S1x1 ![1] bcast_S1_S1x1_1),
    TRef.unary φ.v8 φ.v9 (broadcastInDim S16384x1 ![0, 1] bcast_S1x1_S16384x1_0_1),
    TRef.binary φ.v5 φ.v9 φ.v10 (cmpi .sle),
    TRef.binary φ.v7 φ.v10 φ.v11 andi,
    TRef.nullary φ.c_3 (constantI S_ 1 1#1),
    TRef.binary φ.v11 φ.c_3 φ.v12 (fun x v => Host.reduce IntOp.andi x v reducesTo_S16384x1_S16384_d1 h_S_),
    TRef.binary arg0 φ.v5 φ.v13 (fun x i => Host.gather gather_S16384x768_S16384x1_S16384x768_1_0_n_n_0_1_1768 x i),
    TRef.unary φ.v12 φ.v14 (broadcastInDim S16384x768 ![0] bcast_S16384_S16384x768_0),
    TRef.nullary φ.cst (constant S_ .f32 0x7FC00000#32),
    TRef.unary φ.cst φ.v15 (broadcastInDim S16384x768 ![] bcast_S_S16384x768),
    TRef.ternary φ.v14 φ.v13 φ.v15 φ.v16 select ]

/-- The layer norm of the gathered rows. -/
abbrev opsNorm : List (HloOp τ sig (Elt F)) :=
  [ nullary main_cst (constant S_ .f32 0x00000000#32),
    binary main_v6 main_cst main_v7 ((fun x v => Host.reduceAdd x v reducesTo_S16384x768_S16384_d1 h_S_)),
    unary main_v7 main_v8 (broadcastInDim S16384x1 ![0] bcast_S16384_S16384x1_0),
    nullary main_cst_0 (constant S_ .f32 0x44400000#32),
    unary main_cst_0 main_v9 (broadcastInDim S16384x1 ![] bcast_S_S16384x1),
    binary main_v8 main_v9 main_v10 (Host.divf),
    unary main_v10 main_v11 (broadcastInDim S16384x768 ![0, 1] bcast_S16384x1_S16384x768_0_1),
    binary main_v6 main_v11 main_v12 (subf),
    binary main_v12 main_v12 main_v13 (mulf),
    nullary main_cst_1 (constant S_ .f32 0x00000000#32),
    binary main_v13 main_cst_1 main_v14 ((fun x v => Host.reduceAdd x v reducesTo_S16384x768_S16384_d1 h_S_)),
    unary main_v14 main_v15 (broadcastInDim S16384x1 ![0] bcast_S16384_S16384x1_0),
    nullary main_cst_2 (constant S_ .f32 0x44400000#32),
    unary main_cst_2 main_v16 (broadcastInDim S16384x1 ![] bcast_S_S16384x1),
    binary main_v15 main_v16 main_v17 (Host.divf),
    unary main_v10 main_v18 (broadcastInDim S16384x768 ![0, 1] bcast_S16384x1_S16384x768_0_1),
    binary main_v6 main_v18 main_v19 (subf),
    nullary main_cst_3 (constant S_ .f32 0x3727C5AC#32),
    unary main_cst_3 main_v20 (broadcastInDim S16384x1 ![] bcast_S_S16384x1),
    binary main_v17 main_v20 main_v21 (addf),
    unary main_v21 main_v22 (Host.sqrt),
    unary main_v22 main_v23 (broadcastInDim S16384x768 ![0, 1] bcast_S16384x1_S16384x768_0_1),
    binary main_v19 main_v23 main_v24 (Host.divf),
    unary main_arg2 main_v25 (broadcastInDim S1x768 ![1] bcast_S768_S1x768_1),
    unary main_v25 main_v26 (broadcastInDim S16384x768 ![0, 1] bcast_S1x768_S16384x768_0_1),
    binary main_v24 main_v26 main_v27 (mulf),
    unary main_arg3 main_v28 (broadcastInDim S1x768 ![1] bcast_S768_S1x768_1),
    unary main_v28 main_v29 (broadcastInDim S16384x768 ![0, 1] bcast_S1x768_S16384x768_0_1),
    binary main_v27 main_v29 main_v30 (addf) ]

/-- The two-layer network over the normalised rows, and the residual. -/
abbrev opsMlp : List (HloOp τ sig (Elt F)) :=
  [ unary main_arg4 main_v31 ((transpose S768x3072 [1, 0] · transposes_S3072x768_S768x3072_1_0)),
    binary main_v30 main_v31 main_v32 ((fun l r => Host.dotGeneral dot_S16384x768_S768x3072_S16384x3072_1_0_0_1_n_n none l r)),
    unary main_arg5 main_v33 (broadcastInDim S1x3072 ![1] bcast_S3072_S1x3072_1),
    unary main_v33 main_v34 (broadcastInDim S16384x3072 ![0, 1] bcast_S1x3072_S16384x3072_0_1),
    binary main_v32 main_v34 main_v35 (addf),
    TRef.nullary main_call3.cst (constant S_ .f32 0x00000000#32),
    TRef.unary main_call3.cst main_call3.v0 (broadcastInDim S16384x3072 ![] bcast_S_S16384x3072),
    TRef.binary (.of main_v35) main_call3.v0 main_call3.v1 maximumf,
    unary main_arg6 main_v37 ((transpose S3072x768 [1, 0] · transposes_S768x3072_S3072x768_1_0)),
    binary main_v36 main_v37 main_v38 ((fun l r => Host.dotGeneral dot_S16384x3072_S3072x768_S16384x768_1_0_0_1_n_n none l r)),
    unary main_arg7 main_v39 (broadcastInDim S1x768 ![1] bcast_S768_S1x768_1),
    unary main_v39 main_v40 (broadcastInDim S16384x768 ![0, 1] bcast_S1x768_S16384x768_0_1),
    binary main_v38 main_v40 main_v41 (addf),
    binary main_v6 main_v41 main_v42 (addf) ]

/-- The inverse of the order: the positions scattered at it. -/
abbrev opsInv : List (HloOp τ sig (Elt F)) :=
  [ nullary main_c (constantI S_ 32 0#32),
    unary main_c main_v43 (broadcastInDim S16384 ![] bcast_S_S16384),
    nullary main_v44 (iotaInDim S16384 32 0),
    nullary main_c_4 (constantI S_ 32 0#32),
    unary main_c_4 main_v45 (broadcastInDim S16384 ![] bcast_S_S16384),
    binary main_v5 main_v45 main_v46 (cmpi .slt),
    nullary main_c_5 (constantI S_ 32 16384#32),
    unary main_c_5 main_v47 (broadcastInDim S16384 ![] bcast_S_S16384),
    binary main_v5 main_v47 main_v48 (addi),
    ternary main_v46 main_v48 main_v5 main_v49 (select),
    unary main_v49 main_v50 (broadcastInDim S16384x1 ![0] bcast_S16384_S16384x1_0),
    ternary main_v43 main_v50 main_v44 main_v51 ((fun x i u => Host.scatter scatter_S16384_S16384x1_S16384_n_0_0_1 (fun _ b => b) x i u)) ]

/-- Back to the argument's own shape. -/
abbrev opsBack : List (HloOp τ sig (Elt F)) :=
  [ reshape main_v52 main_v53 (rfl : (.f32 : EltTy) = .f32) shapeCasts_S16384x768_S2x8192x768,
    unary main_v53 main_v54 ((transpose S8192x2x768 [1, 0, 2] · transposes_S2x8192x768_S8192x2x768_1_0_2)) ]

/-- The whole line. -/
abbrev ops : List (HloOp τ sig (Elt F)) :=
  opsOrder ++ (opsTake (.of main_v1) (.of main_v5) main_call2 ++ (opsNorm ++ (opsMlp ++ (opsInv ++
    (opsTake (.of main_v42) (.of main_v51) main_call4 ++ opsBack)))))

/-- The gather helper's body is its line. -/
theorem take_eq (arg0 : TRef sig ⟨S16384x768, .f32⟩) (arg1 : TRef sig ⟨S16384, .i32⟩) (φ : fn_take.Bufs) :
    fn_take.body (F := F) arg0 arg1 φ = seq (opsTake arg0 arg1 φ) := by
  simp only [fn_take.body, fn_where.body, seq, bind_assoc, pure_bind]

set_option maxHeartbeats 4000000 in
/-- The program is that straight line: its calls unfolded, both sides are one chain of operations once sequencing is
    reassociated. -/
theorem main_eq (c : Dev nD) : main (F := F) c = seq ops := by
  simp only [main, main_part0, main_part1, fn_argmax.body, fn_argsort.body, fn_relu.body, take_eq, ops,
    seq_append, bind_assoc, pure_bind]
  simp only [seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches the program's own buffers only, -/
theorem ops_sub : (ops : List (HloOp τ sig (Elt F))).Forall fun op => op.bufs ⊆ tcRefs τ sig := by
  simp only [ops, List.forall_append]
  refine ⟨?_, ?_, ?_, ?_, ?_, ?_, ?_⟩ <;> simp only [List.Forall] <;> (repeat' apply And.intro) <;> with_reducible first
    | exact nullary_bufs_sub .. | exact unary_bufs_sub .. | exact binary_bufs_sub .. | exact ternary_bufs_sub ..
    | exact quaternary_bufs_sub .. | exact reshape_bufs_sub ..

/-- and determines its results. -/
theorem ops_fresh : (ops : List (HloOp τ sig (Elt F))).Forall fun op => op.fresh = ∅ := by
  simp only [ops, List.forall_append]
  refine ⟨?_, ?_, ?_, ?_, ?_, ?_, ?_⟩ <;> simp only [List.Forall] <;> repeat' constructor

set_option maxHeartbeats 4000000 in
/-- The run: every buffer ends at the fold of the line over what the launch memory held. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.1 ops_fresh)

end Cert.Proof.Ref

end
-- ==== Proof.ReferenceValue.lean ====
/- What the reference program's line of operations leaves in its result, as a composition of the steps the reference names:
   the rows (`rowsOf`), the routing order (`orderOf` of the clusters), the gather (`takeRows`), the layer norm
   (`layerNorm`), the network with its residual (`mlp`), the inverse order (`inverse`), the gather back and the way back to
   the argument's shape (`blockOf`). For any scalars `F`. -/
module

public import proofs.«01_k».proof.Proof.ReferenceRun
public import Idealize.ShloMosaic.Lib.Pipeline.Frame
public import Idealize.ShloMosaic.Lib.Claim
public import Idealize.ShloMosaic.Lib.Quiescent
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-! ## The steps -/

/-- The 16384 rows, batch by batch. -/
def rowsOf (x : FVec F S8192x2x768 .f32) : FVec F S16384x768 .f32 :=
  shapeCast S16384x768 (transpose S2x8192x768 [1, 0, 2] x transposes_S8192x2x768_S2x8192x768_1_0_2) shapeCasts_S2x8192x768_S16384x768

/-- Rows back in the argument's shape. -/
def blockOf (y : FVec F S16384x768 .f32) : FVec F S8192x2x768 .f32 :=
  transpose S8192x2x768 [1, 0, 2] (shapeCast S2x8192x768 y shapeCasts_S16384x768_S2x8192x768) transposes_S2x8192x768_S8192x2x768_1_0_2

/-- The cluster of each row: the index of its largest score. -/
def clusterOf (x : FVec F S16384x768 .f32) (cent : FVec F S16x768 .f32) : IVec S16384 32 := fun j =>
  (Host.argReduce reducer_argmax_f32_i32
    (Host.dotGeneral dot_S16384x768_S768x16_S16384x16_1_0_0_1_n_n none x
      (transpose S768x16 [1, 0] cent transposes_S16x768_S768x16_1_0) : FVec F S16384x16 .f32)
    (iotaInDim S16384x16 32 1) (constant S_ .f32 0xFF800000#32) (constantI S_ 32 0#32) reducesTo_S16384x16_S16384_d1 h_S_ j).2

/-- The order that sorts the rows by a key. -/
def orderOf (key : IVec S16384 32) : IVec S16384 32 :=
  (Host.sort2 S16384 0 comparator_i32_i32_d0 key (iotaInDim S16384 32 0)).2

/-- Indices with the negative ones counted from the end. -/
def wrapped (i : IVec S16384 32) : IVec S16384 32 :=
  select (cmpi .slt i (broadcastInDim S16384 ![] bcast_S_S16384 (constantI S_ 32 0#32)))
    (addi i (broadcastInDim S16384 ![] bcast_S_S16384 (constantI S_ 32 16384#32))) i

/-- The wrapped indices as a column. -/
def column (i : IVec S16384 32) : IVec S16384x1 32 := broadcastInDim S16384x1 ![0] bcast_S16384_S16384x1_0 (wrapped i)

/-- Whether each index names a row. -/
def inRange (i : IVec S16384 32) : IVec S16384 1 :=
  Host.reduce IntOp.andi
    (andi (cmpi .sge (column i) (broadcastInDim S16384x1 ![] bcast_S_S16384x1 (constantI S_ 32 0#32)))
      (cmpi .sle (column i) (broadcastInDim S16384x1 ![0, 1] bcast_S1x1_S16384x1_0_1
        (broadcastInDim S1x1 ![1] bcast_S1_S1x1_1 (constantI S1 32 16383#32)))))
    (constantI S_ 1 1#1) reducesTo_S16384x1_S16384_d1 h_S_

/-- The rows of `x` at the indices `i`, a row of not-a-number where an index names none. -/
def takeRows (x : FVec F S16384x768 .f32) (i : IVec S16384 32) : FVec F S16384x768 .f32 :=
  select (broadcastInDim S16384x768 ![0] bcast_S16384_S16384x768_0 (inRange i))
    (Host.gather gather_S16384x768_S16384x1_S16384x768_1_0_n_n_0_1_1768 x (column i))
    (broadcastInDim S16384x768 ![] bcast_S_S16384x768 (constant S_ .f32 0x7FC00000#32))

/-- The inverse of an order: the position `k` written at `i k`. -/
def inverse (i : IVec S16384 32) : IVec S16384 32 :=
  Host.scatter scatter_S16384_S16384x1_S16384_n_0_0_1 (fun _ b => b)
    (broadcastInDim S16384 ![] bcast_S_S16384 (constantI S_ 32 0#32)) (column i) (iotaInDim S16384 32 0)

/-- The mean of each row, as a column. -/
def meanCol (x : FVec F S16384x768 .f32) : FVec F S16384x1 .f32 :=
  Host.divf (broadcastInDim S16384x1 ![0] bcast_S16384_S16384x1_0
      (Host.reduceAdd x (constant S_ .f32 0x00000000#32) reducesTo_S16384x768_S16384_d1 h_S_))
    (broadcastInDim S16384x1 ![] bcast_S_S16384x1 (constant S_ .f32 0x44400000#32))

/-- The rows less their means. -/
def centred (x : FVec F S16384x768 .f32) : FVec F S16384x768 .f32 :=
  subf x (broadcastInDim S16384x768 ![0, 1] bcast_S16384x1_S16384x768_0_1 (meanCol x))

/-- The deviation of each row, as a column. -/
def devCol (x : FVec F S16384x768 .f32) : FVec F S16384x1 .f32 :=
  Host.sqrt (addf (meanCol (mulf (centred x) (centred x)))
    (broadcastInDim S16384x1 ![] bcast_S_S16384x1 (constant S_ .f32 0x3727C5AC#32)))

/-- A vector of 768 under every row. -/
def everyRow (g : FVec F S768 .f32) : FVec F S16384x768 .f32 :=
  broadcastInDim S16384x768 ![0, 1] bcast_S1x768_S16384x768_0_1 (broadcastInDim S1x768 ![1] bcast_S768_S1x768_1 g)

/-- The layer norm of every row. -/
def layerNorm (x : FVec F S16384x768 .f32) (g b : FVec F S768 .f32) : FVec F S16384x768 .f32 :=
  addf (mulf (Host.divf (centred x) (broadcastInDim S16384x768 ![0, 1] bcast_S16384x1_S16384x768_0_1 (devCol x))) (everyRow g))
    (everyRow b)

/-- The hidden layer of normalised rows. -/
def hidden (h : FVec F S16384x768 .f32) (w1 : FVec F S3072x768 .f32) (b1 : FVec F S3072 .f32) : FVec F S16384x3072 .f32 :=
  maximumf
    (addf (Host.dotGeneral dot_S16384x768_S768x3072_S16384x3072_1_0_0_1_n_n none h
        (transpose S768x3072 [1, 0] w1 transposes_S3072x768_S768x3072_1_0))
      (broadcastInDim S16384x3072 ![0, 1] bcast_S1x3072_S16384x3072_0_1 (broadcastInDim S1x3072 ![1] bcast_S3072_S1x3072_1 b1)))
    (broadcastInDim S16384x3072 ![] bcast_S_S16384x3072 (constant S_ .f32 0x00000000#32))

/-- The network's output over normalised rows `h`, added to the rows `x`. -/
def mlp (x h : FVec F S16384x768 .f32) (w1 : FVec F S3072x768 .f32) (b1 : FVec F S3072 .f32) (w2 : FVec F S768x3072 .f32)
    (b2 : FVec F S768 .f32) : FVec F S16384x768 .f32 :=
  addf x (addf (Host.dotGeneral dot_S16384x3072_S3072x768_S16384x768_1_0_0_1_n_n none (hidden h w1 b1)
    (transpose S3072x768 [1, 0] w2 transposes_S768x3072_S3072x768_1_0)) (everyRow b2))

/-- The rows normalised, through the network, with the residual. -/
def expert (x : FVec F S16384x768 .f32) (g b : FVec F S768 .f32) (w1 : FVec F S3072x768 .f32) (b1 : FVec F S3072 .f32)
    (w2 : FVec F S768x3072 .f32) (b2 : FVec F S768 .f32) : FVec F S16384x768 .f32 :=
  mlp x (layerNorm x g b) w1 b1 w2 b2

/-- What the reference computes: rows routed into cluster order, through the expert, and routed back. -/
def result (x : FVec F S8192x2x768 .f32) (cent : FVec F S16x768 .f32) (g b : FVec F S768 .f32) (w1 : FVec F S3072x768 .f32)
    (b1 : FVec F S3072 .f32) (w2 : FVec F S768x3072 .f32) (b2 : FVec F S768 .f32) : FVec F S8192x2x768 .f32 :=
  let order := orderOf (clusterOf (rowsOf x) cent)
  blockOf (takeRows (expert (takeRows (rowsOf x) order) g b w1 b1 w2 b2) (inverse order))

/-! ## The line, step by step -/

variable (V : Valuation τ sig (Elt F))

theorem order_rows : after opsOrder V (main_v1 : DevRef τ sig) = rowsOf (V (main_arg0 : DevRef τ sig)) := by
  after_results_simp
  rfl

theorem order_order : after opsOrder V (main_v5 : DevRef τ sig)
    = orderOf (clusterOf (rowsOf (V (main_arg0 : DevRef τ sig))) (V (main_arg1 : DevRef τ sig))) := by
  after_results_simp
  rfl

theorem take_there : after (opsTake (.of main_v1) (.of main_v5) main_call2) V (main_v6 : DevRef τ sig)
    = takeRows (V (main_v1 : DevRef τ sig)) (V (main_v5 : DevRef τ sig)) := by
  after_results_simp
  simp only [TRef.ofBuf_toBuf]
  simp only [TRef.ofBuf, TRef.toBuf, cast_eq]
  rfl

theorem norm_norm : after opsNorm V (main_v30 : DevRef τ sig)
    = layerNorm (V (main_v6 : DevRef τ sig)) (V (main_arg2 : DevRef τ sig)) (V (main_arg3 : DevRef τ sig)) := by
  after_results_simp
  rfl

theorem mlp_mlp : after opsMlp V (main_v42 : DevRef τ sig)
    = mlp (V (main_v6 : DevRef τ sig)) (V (main_v30 : DevRef τ sig)) (V (main_arg4 : DevRef τ sig)) (V (main_arg5 : DevRef τ sig))
        (V (main_arg6 : DevRef τ sig)) (V (main_arg7 : DevRef τ sig)) := by
  after_results_simp
  rfl

theorem inv_inv : after opsInv V (main_v51 : DevRef τ sig) = inverse (V (main_v5 : DevRef τ sig)) := by
  after_results_simp
  rfl

theorem take_back : after (opsTake (.of main_v42) (.of main_v51) main_call4) V (main_v52 : DevRef τ sig)
    = takeRows (V (main_v42 : DevRef τ sig)) (V (main_v51 : DevRef τ sig)) := by
  after_results_simp
  simp only [TRef.ofBuf_toBuf]
  simp only [TRef.ofBuf, TRef.toBuf, cast_eq]
  rfl

theorem back_block : after opsBack V (main_v54 : DevRef τ sig) = blockOf (V (main_v52 : DevRef τ sig)) := by
  after_results_simp
  rfl

/-! ## What each step leaves alone -/

/-- The routing order's operations write no argument. -/
theorem order_keeps : after opsOrder V (main_arg0 : DevRef τ sig) = V (main_arg0 : DevRef τ sig)
    ∧ after opsOrder V (main_arg1 : DevRef τ sig) = V (main_arg1 : DevRef τ sig)
    ∧ after opsOrder V (main_arg2 : DevRef τ sig) = V (main_arg2 : DevRef τ sig)
    ∧ after opsOrder V (main_arg3 : DevRef τ sig) = V (main_arg3 : DevRef τ sig)
    ∧ after opsOrder V (main_arg4 : DevRef τ sig) = V (main_arg4 : DevRef τ sig)
    ∧ after opsOrder V (main_arg5 : DevRef τ sig) = V (main_arg5 : DevRef τ sig)
    ∧ after opsOrder V (main_arg6 : DevRef τ sig) = V (main_arg6 : DevRef τ sig)
    ∧ after opsOrder V (main_arg7 : DevRef τ sig) = V (main_arg7 : DevRef τ sig) := by
  refine ⟨?_, ?_, ?_, ?_, ?_, ?_, ?_, ?_⟩ <;> after_reads_simp

/-- The gather's operations write neither an argument nor the order. -/
theorem there_keeps : after (opsTake (.of main_v1) (.of main_v5) main_call2) V (main_arg0 : DevRef τ sig) = V (main_arg0 : DevRef τ sig)
    ∧ after (opsTake (.of main_v1) (.of main_v5) main_call2) V (main_arg1 : DevRef τ sig) = V (main_arg1 : DevRef τ sig)
    ∧ after (opsTake (.of main_v1) (.of main_v5) main_call2) V (main_arg2 : DevRef τ sig) = V (main_arg2 : DevRef τ sig)
    ∧ after (opsTake (.of main_v1) (.of main_v5) main_call2) V (main_arg3 : DevRef τ sig) = V (main_arg3 : DevRef τ sig)
    ∧ after (opsTake (.of main_v1) (.of main_v5) main_call2) V (main_arg4 : DevRef τ sig) = V (main_arg4 : DevRef τ sig)
    ∧ after (opsTake (.of main_v1) (.of main_v5) main_call2) V (main_arg5 : DevRef τ sig) = V (main_arg5 : DevRef τ sig)
    ∧ after (opsTake (.of main_v1) (.of main_v5) main_call2) V (main_arg6 : DevRef τ sig) = V (main_arg6 : DevRef τ sig)
    ∧ after (opsTake (.of main_v1) (.of main_v5) main_call2) V (main_arg7 : DevRef τ sig) = V (main_arg7 : DevRef τ sig)
    ∧ after (opsTake (.of main_v1) (.of main_v5) main_call2) V (main_v5 : DevRef τ sig) = V (main_v5 : DevRef τ sig) := by
  refine ⟨?_, ?_, ?_, ?_, ?_, ?_, ?_, ?_, ?_⟩ <;> after_reads_simp

/-- The layer norm's operations write no argument, no order and none of the gathered rows. -/
theorem norm_keeps : after opsNorm V (main_arg0 : DevRef τ sig) = V (main_arg0 : DevRef τ sig)
    ∧ after opsNorm V (main_arg1 : DevRef τ sig) = V (main_arg1 : DevRef τ sig)
    ∧ after opsNorm V (main_arg2 : DevRef τ sig) = V (main_arg2 : DevRef τ sig)
    ∧ after opsNorm V (main_arg3 : DevRef τ sig) = V (main_arg3 : DevRef τ sig)
    ∧ after opsNorm V (main_arg4 : DevRef τ sig) = V (main_arg4 : DevRef τ sig)
    ∧ after opsNorm V (main_arg5 : DevRef τ sig) = V (main_arg5 : DevRef τ sig)
    ∧ after opsNorm V (main_arg6 : DevRef τ sig) = V (main_arg6 : DevRef τ sig)
    ∧ after opsNorm V (main_arg7 : DevRef τ sig) = V (main_arg7 : DevRef τ sig)
    ∧ after opsNorm V (main_v5 : DevRef τ sig) = V (main_v5 : DevRef τ sig)
    ∧ after opsNorm V (main_v6 : DevRef τ sig) = V (main_v6 : DevRef τ sig) := by
  refine ⟨?_, ?_, ?_, ?_, ?_, ?_, ?_, ?_, ?_, ?_⟩ <;> after_reads_simp

/-- The network's operations write no argument and no order. -/
theorem mlp_keeps : after opsMlp V (main_arg0 : DevRef τ sig) = V (main_arg0 : DevRef τ sig)
    ∧ after opsMlp V (main_arg1 : DevRef τ sig) = V (main_arg1 : DevRef τ sig)
    ∧ after opsMlp V (main_arg2 : DevRef τ sig) = V (main_arg2 : DevRef τ sig)
    ∧ after opsMlp V (main_arg3 : DevRef τ sig) = V (main_arg3 : DevRef τ sig)
    ∧ after opsMlp V (main_arg4 : DevRef τ sig) = V (main_arg4 : DevRef τ sig)
    ∧ after opsMlp V (main_arg5 : DevRef τ sig) = V (main_arg5 : DevRef τ sig)
    ∧ after opsMlp V (main_arg6 : DevRef τ sig) = V (main_arg6 : DevRef τ sig)
    ∧ after opsMlp V (main_arg7 : DevRef τ sig) = V (main_arg7 : DevRef τ sig)
    ∧ after opsMlp V (main_v5 : DevRef τ sig) = V (main_v5 : DevRef τ sig) := by
  refine ⟨?_, ?_, ?_, ?_, ?_, ?_, ?_, ?_, ?_⟩ <;> after_reads_simp

/-- The inverse order's operations write no argument and none of the expert's rows. -/
theorem inv_keeps : after opsInv V (main_arg0 : DevRef τ sig) = V (main_arg0 : DevRef τ sig)
    ∧ after opsInv V (main_arg1 : DevRef τ sig) = V (main_arg1 : DevRef τ sig)
    ∧ after opsInv V (main_arg2 : DevRef τ sig) = V (main_arg2 : DevRef τ sig)
    ∧ after opsInv V (main_arg3 : DevRef τ sig) = V (main_arg3 : DevRef τ sig)
    ∧ after opsInv V (main_arg4 : DevRef τ sig) = V (main_arg4 : DevRef τ sig)
    ∧ after opsInv V (main_arg5 : DevRef τ sig) = V (main_arg5 : DevRef τ sig)
    ∧ after opsInv V (main_arg6 : DevRef τ sig) = V (main_arg6 : DevRef τ sig)
    ∧ after opsInv V (main_arg7 : DevRef τ sig) = V (main_arg7 : DevRef τ sig)
    ∧ after opsInv V (main_v42 : DevRef τ sig) = V (main_v42 : DevRef τ sig) := by
  refine ⟨?_, ?_, ?_, ?_, ?_, ?_, ?_, ?_, ?_⟩ <;> after_reads_simp

/-- The gather back writes no argument. -/
theorem back_keeps : after (opsTake (.of main_v42) (.of main_v51) main_call4) V (main_arg0 : DevRef τ sig) = V (main_arg0 : DevRef τ sig)
    ∧ after (opsTake (.of main_v42) (.of main_v51) main_call4) V (main_arg1 : DevRef τ sig) = V (main_arg1 : DevRef τ sig)
    ∧ after (opsTake (.of main_v42) (.of main_v51) main_call4) V (main_arg2 : DevRef τ sig) = V (main_arg2 : DevRef τ sig)
    ∧ after (opsTake (.of main_v42) (.of main_v51) main_call4) V (main_arg3 : DevRef τ sig) = V (main_arg3 : DevRef τ sig)
    ∧ after (opsTake (.of main_v42) (.of main_v51) main_call4) V (main_arg4 : DevRef τ sig) = V (main_arg4 : DevRef τ sig)
    ∧ after (opsTake (.of main_v42) (.of main_v51) main_call4) V (main_arg5 : DevRef τ sig) = V (main_arg5 : DevRef τ sig)
    ∧ after (opsTake (.of main_v42) (.of main_v51) main_call4) V (main_arg6 : DevRef τ sig) = V (main_arg6 : DevRef τ sig)
    ∧ after (opsTake (.of main_v42) (.of main_v51) main_call4) V (main_arg7 : DevRef τ sig) = V (main_arg7 : DevRef τ sig) := by
  refine ⟨?_, ?_, ?_, ?_, ?_, ?_, ?_, ?_⟩ <;> after_reads_simp

/-- The last operations write no argument. -/
theorem last_keeps : after opsBack V (main_arg0 : DevRef τ sig) = V (main_arg0 : DevRef τ sig)
    ∧ after opsBack V (main_arg1 : DevRef τ sig) = V (main_arg1 : DevRef τ sig)
    ∧ after opsBack V (main_arg2 : DevRef τ sig) = V (main_arg2 : DevRef τ sig)
    ∧ after opsBack V (main_arg3 : DevRef τ sig) = V (main_arg3 : DevRef τ sig)
    ∧ after opsBack V (main_arg4 : DevRef τ sig) = V (main_arg4 : DevRef τ sig)
    ∧ after opsBack V (main_arg5 : DevRef τ sig) = V (main_arg5 : DevRef τ sig)
    ∧ after opsBack V (main_arg6 : DevRef τ sig) = V (main_arg6 : DevRef τ sig)
    ∧ after opsBack V (main_arg7 : DevRef τ sig) = V (main_arg7 : DevRef τ sig) := by
  refine ⟨?_, ?_, ?_, ?_, ?_, ?_, ?_, ?_⟩ <;> after_reads_simp

/-! ## The whole line -/

/-- The result's buffer after the whole line. -/
theorem value_eq : after ops V (main_v54 : DevRef τ sig)
    = result (V (main_arg0 : DevRef τ sig)) (V (main_arg1 : DevRef τ sig)) (V (main_arg2 : DevRef τ sig))
        (V (main_arg3 : DevRef τ sig)) (V (main_arg4 : DevRef τ sig)) (V (main_arg5 : DevRef τ sig))
        (V (main_arg6 : DevRef τ sig)) (V (main_arg7 : DevRef τ sig)) := by
  rw [ops, after_append, after_append, after_append, after_append, after_append, after_append]
  rw [back_block, take_back, inv_inv]
  simp only [inv_keeps (F := F), mlp_keeps (F := F)]
  rw [mlp_mlp]
  simp only [norm_keeps (F := F)]
  rw [norm_norm]
  simp only [there_keeps (F := F)]
  rw [take_there]
  simp only [order_keeps (F := F)]
  rw [order_rows, order_order]
  rfl

/-- The line writes no argument. -/
theorem args_kept : after ops V (main_arg0 : DevRef τ sig) = V (main_arg0 : DevRef τ sig)
    ∧ after ops V (main_arg1 : DevRef τ sig) = V (main_arg1 : DevRef τ sig)
    ∧ after ops V (main_arg2 : DevRef τ sig) = V (main_arg2 : DevRef τ sig)
    ∧ after ops V (main_arg3 : DevRef τ sig) = V (main_arg3 : DevRef τ sig)
    ∧ after ops V (main_arg4 : DevRef τ sig) = V (main_arg4 : DevRef τ sig)
    ∧ after ops V (main_arg5 : DevRef τ sig) = V (main_arg5 : DevRef τ sig)
    ∧ after ops V (main_arg6 : DevRef τ sig) = V (main_arg6 : DevRef τ sig)
    ∧ after ops V (main_arg7 : DevRef τ sig) = V (main_arg7 : DevRef τ sig) := by
  refine ⟨?_, ?_, ?_, ?_, ?_, ?_, ?_, ?_⟩ <;>
    (rw [ops, after_append, after_append, after_append, after_append, after_append, after_append]
     simp only [order_keeps (F := F), there_keeps (F := F), norm_keeps (F := F), mlp_keeps (F := F), inv_keeps (F := F), back_keeps (F := F), last_keeps (F := F)])

/-! ## The run -/

/-- Every complete run of the reference leaves the result in its buffer, leaves the arguments as they were, and ends with
    every counter zero. -/
theorem run_value (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v54) = result (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7)))
      ∧ (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7))
      ∧ r.2.sem = fun _ => 0 :=
  (θ_run defs _ _).mono (fun r h => ⟨fun c => (h c main_v54).trans (value_eq (launchContents m c)),
      fun c => by
        obtain ⟨h0, h1, h2, h3, h4, h5, h6, h7⟩ := args_kept (launchContents m c)
        exact ⟨(h c main_arg0).trans h0, (h c main_arg1).trans h1, (h c main_arg2).trans h2, (h c main_arg3).trans h3, (h c main_arg4).trans h4, (h c main_arg5).trans h5, (h c main_arg6).trans h6, (h c main_arg7).trans h7⟩,
      sem_eq_zero_of_no_sems (by decide) r.2⟩) (run_main m ρ)

end Cert.Proof.Ref

end
-- ==== Proof.ReferenceRoute.lean ====
/- The reference's routing undone: the order that sorts the rows by cluster is a permutation of the row numbers, whatever the
   clusters are; a gather by a list of row numbers reads those rows; the inverse order puts each row back. So routing the
   rows, applying any row-wise function, and routing back is the row-wise function. For any scalars `F`. -/
module

public import proofs.«01_k».proof.Proof.ReferenceValue
public import Idealize.ShloMosaic.Lib.SortFacts
public import Idealize.ShloMosaic.Lib.ReduceAll
public import Idealize.ShloMosaic.Lib.Routing.OpsSet
public import Idealize.ShloMosaic.Lib.Pointwise

@[expose] public section

set_option maxRecDepth 16384

noncomputable section

namespace Cert.Proof.Ref

open Cert.ReferenceIdeal Cert.ReferenceIdeal.Gen
open Idealize.ShloMosaic hiding ix1 ix2 ix3
open Idealize.ShloMosaic.ValueIdx Idealize.ShloMosaic.Routing

variable {F : FTy → Type} [FloatOps F]

/-- An index list that names, at each position `p`, the row `f p`. -/
def Names (i : IVec S16384 32) (f : Fin 16384 → Fin 16384) : Prop := ∀ p : Fin 16384, i (ix1 p) = BitVec.ofNat 32 (f p).val

/-- A stable sort of pairs along a vector permutes the second components, whatever the comparison. -/
theorem sort2_permutes {n : Nat} {α β : Type} (cmp : α × β → α × β → BitVec 1) (x : (shape1 n).Idx → α) (y : (shape1 n).Idx → β) :
    ∃ e : Equiv.Perm (Fin n), ∀ p : Fin n, (Host.sort2 (shape1 n) 0 cmp x y).2 (ix1 p) = y (ix1 (e p)) := by
  let before : Fin n → Fin n → Bool := fun a b => cmp (x (ix1 a), y (ix1 a)) (x (ix1 b), y (ix1 b)) == 1#1
  have hd : 0 < (shape1 n).rank := Nat.zero_lt_one
  have along : ∀ (j : (shape1 n).Idx) (c : Fin n), j.along (⟨0, hd⟩ : Fin (shape1 n).rank) c = ix1 c := fun j c =>
    (Shape.Idx.along_rank1 j c).trans (ofFin_eq_ix1 c)
  refine ⟨Equiv.ofBijective (sortedFrom before) ⟨sortedFrom_injective before, sortedFrom_surjective before⟩, fun p => ?_⟩
  have hbefore : (fun a b : Fin n =>
      cmp (x ((ix1 p : (shape1 n).Idx).along ⟨0, hd⟩ a), y ((ix1 p : (shape1 n).Idx).along ⟨0, hd⟩ a))
        (x ((ix1 p : (shape1 n).Idx).along ⟨0, hd⟩ b), y ((ix1 p : (shape1 n).Idx).along ⟨0, hd⟩ b)) == 1#1) = before := by
    funext a b
    rw [along, along]
  unfold Host.sort2
  rw [dif_pos hd]
  show y ((ix1 p : (shape1 n).Idx).along ⟨0, hd⟩ (sortedFrom (n := n) _ p)) = _
  rw [along]
  exact congrArg (fun b => y (ix1 (sortedFrom (n := n) b p))) hbefore

/-- The order sorting the rows by any key names the rows in some permutation. -/
theorem orderOf_names (key : IVec S16384 32) : ∃ e : Equiv.Perm (Fin 16384), Names (orderOf key) e :=
  sort2_permutes (n := 16384) comparator_i32_i32_d0 key (iotaInDim S16384 32 0)

/-- A row number is not negative, so it is not wrapped. -/
theorem wrapped_names {i : IVec S16384 32} {f : Fin 16384 → Fin 16384} (h : Names i f) : Names (wrapped i) f := fun p => by
  have hf := (f p).isLt
  have e := h p
  unfold wrapped
  show Scalar.select (IntOp.cmpi .slt (i (ix1 p)) (broadcastInDim S16384 ![] bcast_S_S16384 (constantI S_ 32 0#32) (ix1 p))) _ (i (ix1 p)) = _
  rw [bc0]
  show Scalar.select (IntOp.cmpi .slt (i (ix1 p)) 0#32) _ (i (ix1 p)) = _
  rw [wrap_of_lt _ _ (by rw [e, BitVec.toNat_ofNat]; omega), e]

/-- The column of wrapped indices holds the row numbers. -/
theorem column_names {i : IVec S16384 32} {f : Fin 16384 → Fin 16384} (h : Names i f) (p : Fin 16384) :
    column i (ix2 p (0 : Fin 1)) = BitVec.ofNat 32 (f p).val :=
  (bcCol bcast_S16384_S16384x1_0 _ p).trans (wrapped_names h p)

/-- Every row number names a row. -/
theorem inRange_names {i : IVec S16384 32} {f : Fin 16384 → Fin 16384} (h : Names i f) (j : S16384.Idx) : inRange i j = 1#1 := by
  refine Host.reduce_andi_one _ _ _ _ _ rfl fun q => ?_
  obtain ⟨p, z, rfl⟩ : ∃ (p : Fin 16384) (z : Fin 1), q = ix2 p z := ⟨q 0, q 1, ValueIdx.eq_ix2 q⟩
  obtain rfl : z = 0 := Subsingleton.elim _ _
  have hf := (f p).isLt
  show IntOp.andi (IntOp.cmpi .sge (column i (ix2 p (0 : Fin 1))) 0#32) (IntOp.cmpi .sle (column i (ix2 p (0 : Fin 1))) 16383#32) = 1#1
  rw [column_names h, (WordCmp.cmpi_sge_ofNat_eq_one_iff (by omega) (by decide)).2 (by omega),
    (WordCmp.cmpi_sle_ofNat_eq_one_iff (by omega) (by decide)).2 (by omega)]
  rfl

/-- A gather by row numbers reads those rows. -/
theorem takeRows_names {i : IVec S16384 32} {f : Fin 16384 → Fin 16384} (h : Names i f) (x : FVec F S16384x768 .f32)
    (p : Fin 16384) (d : Fin 768) : takeRows x i (ix2 p d) = x (ix2 (f p) d) := by
  unfold takeRows
  show Scalar.select (broadcastInDim S16384x768 ![0] bcast_S16384_S16384x768_0 (inRange i) (ix2 p d)) _ _ = _
  have e : broadcastInDim S16384x768 ![0] bcast_S16384_S16384x768_0 (inRange i) (ix2 p d) = 1#1 := inRange_names h _
  rw [e]
  exact gather_row _ rfl rfl rfl rfl rfl x (column i) p d (f p) (column_names h p) (by decide)

/-- The inverse order names the rows by the inverse permutation. -/
theorem inverse_names {i : IVec S16384 32} {e : Equiv.Perm (Fin 16384)} (h : Names i e) : Names (inverse i) e.symm := fun p =>
  (scatter_set scatter_S16384_S16384x1_S16384_n_0_0_1 rfl rfl rfl _ (column i) (iotaInDim S16384 32 0)
    (fun k => if hk : k < 16384 then (e ⟨k, hk⟩).val else 0) (fun k => by rw [column_names h k, dif_pos k.isLt])
    (fun k => by rw [dif_pos k.isLt]; exact lt_trans (e k).isLt (by decide)) p (BitVec.ofNat 32 (e.symm p).val)
    (fun k hk => by
      rw [dif_pos k.isLt] at hk
      have : e.symm p = k := by rw [← (Fin.ext hk : e k = p), Equiv.symm_apply_apply]
      rw [this]
      rfl)).1 ⟨e.symm p, by rw [dif_pos (e.symm p).isLt]; exact congrArg Fin.val (e.apply_symm_apply p)⟩

/-- Routing rows by an order, applying `E`, and routing back reads, at row `p`, the row of `E` that the order's row `p` went to. -/
theorem route_back (key : IVec S16384 32) : ∃ e : Equiv.Perm (Fin 16384), ∀ (x y : FVec F S16384x768 .f32) (p : Fin 16384) (d : Fin 768),
    takeRows x (orderOf key) (ix2 (e p) d) = x (ix2 p d) ∧ takeRows y (inverse (orderOf key)) (ix2 p d) = y (ix2 (e p) d) := by
  obtain ⟨e, he⟩ := orderOf_names key
  refine ⟨e.symm, fun x y p d => ⟨?_, takeRows_names (inverse_names he) y p d⟩⟩
  rw [takeRows_names he, Equiv.apply_symm_apply]

end Cert.Proof.Ref

end
-- ==== Proof.ReferenceRows.lean ====
/- The reference's steps read row by row, over the extended reals: the expert's row `p` is the row function `rowOut` of row
   `p` of its input. -/
module

public import proofs.«01_k».proof.Proof.ReferenceRoute
public import proofs.«01_k».proof.Proof.RowFunction

@[expose] public section

set_option maxRecDepth 16384

noncomputable section

namespace Cert.Proof.Ref

open Cert.ReferenceIdeal Cert.ReferenceIdeal.Gen
open Idealize.ShloMosaic

/-- Row `p` of the rows. -/
abbrev rowAt (x : FVec Ideal S16384x768 .f32) (p : Fin 16384) (d : Fin 768) : EReal := x (ix2 p d)

/-- The column of means. -/
theorem meanCol_apply (x : FVec Ideal S16384x768 .f32) (p : Fin 16384) (z : Fin 1) : meanCol x (ix2 p z) = mean (rowAt x p) := by
  unfold meanCol mean
  pointwise

/-- The rows less their means. -/
theorem centred_apply (x : FVec Ideal S16384x768 .f32) (p : Fin 16384) (d : Fin 768) :
    centred x (ix2 p d) = centre (rowAt x p) d := by
  unfold centred centre
  pointwise [meanCol_apply]

/-- The column of deviations. -/
theorem devCol_apply (x : FVec Ideal S16384x768 .f32) (p : Fin 16384) (z : Fin 1) :
    devCol x (ix2 p z) = Ideal.sqrt (spread (rowAt x p)) := by
  have e : rowAt (mulf (centred x) (centred x)) p = fun k => centre (rowAt x p) k * centre (rowAt x p) k := by
    funext k
    pointwise [centred_apply]
  unfold devCol spread
  rw [← e]
  pointwise [meanCol_apply]

/-- The layer norm. -/
theorem layerNorm_apply (x : FVec Ideal S16384x768 .f32) (g b : FVec Ideal S768 .f32) (p : Fin 16384) (d : Fin 768) :
    layerNorm x g b (ix2 p d) = normed (rowAt x p) (fun k => g (ix1 k)) (fun k => b (ix1 k)) d := by
  unfold layerNorm normed everyRow
  pointwise [centred_apply, devCol_apply]

/-- The hidden layer. -/
theorem hidden_apply (h : FVec Ideal S16384x768 .f32) (w1 : FVec Ideal S3072x768 .f32) (b1 : FVec Ideal S3072 .f32)
    (p : Fin 16384) (k : Fin 3072) :
    hidden h w1 b1 (ix2 p k) = hiddenOf (rowAt h p) (fun k d => w1 (ix2 k d)) (fun k => b1 (ix1 k)) k := by
  unfold hidden hiddenOf
  pointwise

/-- The network and the residual. -/
theorem mlp_apply (x h : FVec Ideal S16384x768 .f32) (w1 : FVec Ideal S3072x768 .f32) (b1 : FVec Ideal S3072 .f32)
    (w2 : FVec Ideal S768x3072 .f32) (b2 : FVec Ideal S768 .f32) (p : Fin 16384) (d : Fin 768) :
    mlp x h w1 b1 w2 b2 (ix2 p d) = rowAt x p d + outputOf (hiddenOf (rowAt h p) (fun k d => w1 (ix2 k d)) (fun k => b1 (ix1 k)))
      (fun d k => w2 (ix2 d k)) (fun k => b2 (ix1 k)) d := by
  unfold mlp outputOf everyRow
  pointwise [hidden_apply]

/-- The expert, row by row. -/
theorem expert_apply (x : FVec Ideal S16384x768 .f32) (g b : FVec Ideal S768 .f32) (w1 : FVec Ideal S3072x768 .f32)
    (b1 : FVec Ideal S3072 .f32) (w2 : FVec Ideal S768x3072 .f32) (b2 : FVec Ideal S768 .f32) (p : Fin 16384) (d : Fin 768) :
    expert x g b w1 b1 w2 b2 (ix2 p d) = rowOut (rowAt x p) (fun k => g (ix1 k)) (fun k => b (ix1 k)) (fun k d => w1 (ix2 k d))
      (fun k => b1 (ix1 k)) (fun d k => w2 (ix2 d k)) (fun k => b2 (ix1 k)) d := by
  have e : rowAt (layerNorm x g b) p = normed (rowAt x p) (fun k => g (ix1 k)) (fun k => b (ix1 k)) :=
    funext fun k => layerNorm_apply x g b p k
  unfold expert rowOut
  rw [mlp_apply, e]

/-! ## The rows and the argument's shape -/

/-- The row that holds batch entry `b` of sequence place `s`. -/
def rowIndex (s : Fin 8192) (b : Fin 2) : Fin 16384 := ⟨b.val * 8192 + s.val, by have := s.isLt; have := b.isLt; omega⟩

/-- The rows of the argument. -/
theorem rowsOf_apply (x : FVec Ideal S8192x2x768 .f32) (s : Fin 8192) (b : Fin 2) (d : Fin 768) :
    rowsOf x (ix2 (rowIndex s b) d) = x (ix3 s b d) := by
  have hs := s.isLt
  have e₀ : (rowIndex s b).val % 8192 = s.val := by show (b.val * 8192 + s.val) % 8192 = s.val; omega
  have e₁ : (rowIndex s b).val / 8192 = b.val := by show (b.val * 8192 + s.val) / 8192 = b.val; omega
  unfold rowsOf
  pointwise
  simp only [e₀, e₁]

/-- Rows back in the argument's shape. -/
theorem blockOf_apply (y : FVec Ideal S16384x768 .f32) (s : Fin 8192) (b : Fin 2) (d : Fin 768) :
    blockOf y (ix3 s b d) = y (ix2 (rowIndex s b) d) := by
  unfold blockOf
  pointwise
  rfl

/-- What the reference computes, read at an element: the row function of the row there. The routing leaves no trace. -/
theorem result_apply (x : FVec Ideal S8192x2x768 .f32) (cent : FVec Ideal S16x768 .f32) (g b : FVec Ideal S768 .f32)
    (w1 : FVec Ideal S3072x768 .f32) (b1 : FVec Ideal S3072 .f32) (w2 : FVec Ideal S768x3072 .f32) (b2 : FVec Ideal S768 .f32)
    (s : Fin 8192) (q : Fin 2) (d : Fin 768) :
    result x cent g b w1 b1 w2 b2 (ix3 s q d) = rowOut (fun k => x (ix3 s q k)) (fun k => g (ix1 k)) (fun k => b (ix1 k))
      (fun k d => w1 (ix2 k d)) (fun k => b1 (ix1 k)) (fun d k => w2 (ix2 d k)) (fun k => b2 (ix1 k)) d := by
  obtain ⟨e, he⟩ := route_back (F := Ideal) (clusterOf (rowsOf x) cent)
  simp only [← ix2_eq_valueIdx] at he
  have hrow : rowAt (takeRows (rowsOf x) (orderOf (clusterOf (rowsOf x) cent))) (e (rowIndex s q)) = fun k => x (ix3 s q k) :=
    funext fun k => ((he (rowsOf x) (rowsOf x) (rowIndex s q) k).1).trans (rowsOf_apply x s q k)
  unfold result
  rw [blockOf_apply, (he (rowsOf x) _ (rowIndex s q) d).2, expert_apply, hrow]

end Cert.Proof.Ref

end
-- ==== Proof.lean ====
/-
  The proof of `Cert.Claim`. The kernel and its idealization leave the arguments and the counters alone
  (Proof/KernelFrame.lean, Proof/KernelIdealBody.lean), and so does the reference (Proof/ReferenceValue.lean). The two
  results are equal because each is one function of the row at every place of the sequence and batch entry
  (Proof/KernelValue.lean, Proof/ReferenceRows.lean): the reference's routing by cluster is undone by its own inverse.
-/
module

public import proofs.«01_k».proof.Defs
public import proofs.«01_k».proof.Proof.KernelFrame
public import proofs.«01_k».proof.Proof.KernelValue
public import proofs.«01_k».proof.Proof.ReferenceRows

@[expose] public section

noncomputable section

namespace Cert.Proof

open Idealize.ShloMosaic Idealize.SL.Sem

/-- The kernel's value at every element is what the reference computes of the same arguments. -/
theorem value_eq_result (m : (ℓ : Loc KernelIdeal.nD KernelIdeal.τ KernelIdeal.sig) → Buf (Elt Ideal) ℓ) (c : Dev KernelIdeal.nD) :
    Ker.value m c = Ref.result (F := Ideal)
      (m ((c.tc : Thread KernelIdeal.nD KernelIdeal.τ).loc KernelIdeal.main_arg0))
      (m ((c.tc : Thread KernelIdeal.nD KernelIdeal.τ).loc KernelIdeal.main_arg1))
      (m ((c.tc : Thread KernelIdeal.nD KernelIdeal.τ).loc KernelIdeal.main_arg2))
      (m ((c.tc : Thread KernelIdeal.nD KernelIdeal.τ).loc KernelIdeal.main_arg3))
      (m ((c.tc : Thread KernelIdeal.nD KernelIdeal.τ).loc KernelIdeal.main_arg4))
      (m ((c.tc : Thread KernelIdeal.nD KernelIdeal.τ).loc KernelIdeal.main_arg5))
      (m ((c.tc : Thread KernelIdeal.nD KernelIdeal.τ).loc KernelIdeal.main_arg6))
      (m ((c.tc : Thread KernelIdeal.nD KernelIdeal.τ).loc KernelIdeal.main_arg7)) := by
  funext i
  obtain ⟨s, q, d, rfl⟩ : ∃ (s : Fin 8192) (q : Fin 2) (d : Fin 768), i = ix3 s q d := ⟨i 0, i 1, i 2, by
    funext a; match a with | ⟨0, _⟩ => rfl | ⟨1, _⟩ => rfl | ⟨2, _⟩ => rfl⟩
  exact (Ref.result_apply _ _ _ _ _ _ _ _ s q d).symm

/-- From memories agreeing on the arguments the two programs end with equal results. -/
theorem algebraic : Cert.algebraic_KernelIdeal_ReferenceIdeal := by
  intro m g m' g' _ hagree
  refine ⟨Ker.value m, Ker.run_value m g, (θ_run ReferenceIdeal.defs _ _).mono (fun r h c => ⟨(h.1 c).trans ?_, h.2.1 c⟩)
    (Ref.run_value m' g')⟩
  obtain ⟨h0, h1, h2, h3, h4, h5, h6, h7⟩ := hagree c
  rw [h0, h1, h2, h3, h4, h5, h6, h7]
  exact (value_eq_result m c).symm

theorem claim : Cert.Claim := ⟨Cert.Kernel.Gen.facts, Cert.KernelIdeal.Gen.facts, Cert.ReferenceIdeal.Gen.facts,
  fun m g _ => kernel_frame m g,
  fun m g _ => Cert.KernelIdeal.Gen.frame m g,
  fun m g _ => (θ_run ReferenceIdeal.defs _ _).mono (fun _ h => h.2) (Ref.run_value m g),
  trivial,
  algebraic⟩

end Cert.Proof

end
